-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x200x144 : Shape := ⟨3, ![4, 200, 144]⟩
abbrev S4x101x320 : Shape := ⟨3, ![4, 101, 320]⟩
abbrev S144x320 : Shape := ⟨2, ![144, 320]⟩
abbrev S320 : Shape := ⟨1, ![320]⟩
abbrev S320x320 : Shape := ⟨2, ![320, 320]⟩
abbrev S320x1024 : Shape := ⟨2, ![320, 1024]⟩
abbrev S1024 : Shape := ⟨1, ![1024]⟩
abbrev S4x100 : Shape := ⟨2, ![4, 100]⟩
abbrev S4 : Shape := ⟨1, ![4]⟩
abbrev S_ : Shape := ⟨0, ![]⟩

class Facts : Prop where
  bcast_S_S4x100 : S_.BroadcastsInDim S4x100 (![] : Fin 0 → Fin S4x100.rank)
  reducesTo_S4x100_S_d0_1 : S4x100.ReducesTo [0, 1] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_v5 : IVec S_ 1) (main_v11 : IVec S_ 1) (main_v13 : IVec S4 1) (main_v15 : IVec S4 1) : IVec S_ 1 :=
  let main_v16 : IVec S4 1 := andi main_v13 main_v15
  let main_c_7 : IVec S_ 1 := constantI S_ 1 1#1
  let main_v17 : IVec S_ 1 := (fun x v => Host.reduce IntOp.andi x v reducesTo_S4_S_d0 h_S_) main_v16 main_c_7
  let main_v18 : IVec S_ 1 := andi main_v5 main_v11
  let main_v19 : IVec S_ 1 := andi main_v18 main_v17
  main_v19

def fn {F : FTy → Type} [FloatOps F] (main_arg0 : FVec F S4x200x144 .f32) (main_arg1 : FVec F S4x101x320 .f32) (main_arg2 : FVec F S144x320 .f32) (main_arg3 : FVec F S320 .f32) (main_arg4 : FVec F S320x320 .f32) (main_arg5 : FVec F S320 .f32) (main_arg6 : FVec F S320x1024 .f32) (main_arg7 : FVec F S1024 .f32) (main_arg8 : IVec S4x100 32) (main_arg9 : IVec S4 32) (main_arg10 : IVec S4 32) : IVec S_ 1 :=
  let main_c : IVec S_ 32 := constantI S_ 32 1#32
  let main_v0 : IVec S4x100 32 := broadcastInDim S4x100 ![] bcast_S_S4x100 main_c
  let main_v1 : IVec S4x100 1 := cmpi .sge main_arg8 main_v0
  let main_c_0 : IVec S_ 32 := constantI S_ 32 1024#32
  let main_v2 : IVec S4x100 32 := broadcastInDim S4x100 ![] bcast_S_S4x100 main_c_0
  let main_v3 : IVec S4x100 1 := cmpi .slt main_arg8 main_v2
  let main_v4 : IVec S4x100 1 := andi main_v1 main_v3
  let main_c_1 : IVec S_ 1 := constantI S_ 1 1#1
  let main_v5 : IVec S_ 1 := (fun x v => Host.reduce IntOp.andi x v reducesTo_S4x100_S_d0_1 h_S_) main_v4 main_c_1
  let main_c_2 : IVec S_ 32 := constantI S_ 32 100#32
  let main_v6 : IVec S4 32 := broadcastInDim S4 ![] bcast_S_S4 main_c_2
  let main_v7 : IVec S4 1 := cmpi .sge main_arg9 main_v6
  let main_c_3 : IVec S_ 32 := constantI S_ 32 200#32
  let main_v8 : IVec S4 32 := broadcastInDim S4 ![] bcast_S_S4 main_c_3
  let main_v9 : IVec S4 1 := cmpi .sle main_arg9 main_v8
  let main_v10 : IVec S4 1 := andi main_v7 main_v9
  let main_c_4 : IVec S_ 1 := constantI S_ 1 1#1
  let main_v11 : IVec S_ 1 := (fun x v => Host.reduce IntOp.andi x v reducesTo_S4_S_d0 h_S_) main_v10 main_c_4
  let main_c_5 : IVec S_ 32 := constantI S_ 32 50#32
  let main_v12 : IVec S4 32 := broadcastInDim S4 ![] bcast_S_S4 main_c_5
  let main_v13 : IVec S4 1 := cmpi .sge main_arg10 main_v12
  let main_c_6 : IVec S_ 32 := constantI S_ 32 100#32
  let main_v14 : IVec S4 32 := broadcastInDim S4 ![] bcast_S_S4 main_c_6
  let main_v15 : IVec S4 1 := cmpi .sle main_arg10 main_v14
  fn_part1 (F := F) main_v5 main_v11 main_v13 main_v15
-- ==== Kernel.lean ====
abbrev S4x200x144 : Shape := ⟨3, ![4, 200, 144]⟩
abbrev S4x101x320 : Shape := ⟨3, ![4, 101, 320]⟩
abbrev S144x320 : Shape := ⟨2, ![144, 320]⟩
abbrev S320 : Shape := ⟨1, ![320]⟩
abbrev S320x320 : Shape := ⟨2, ![320, 320]⟩
abbrev S320x1024 : Shape := ⟨2, ![320, 1024]⟩
abbrev S1024 : Shape := ⟨1, ![1024]⟩
abbrev S4x100 : Shape := ⟨2, ![4, 100]⟩
abbrev S4 : Shape := ⟨1, ![4]⟩
abbrev S_ : Shape := ⟨0, ![]⟩
abbrev S4x101x1 : Shape := ⟨3, ![4, 101, 1]⟩
abbrev S4x101x321 : Shape := ⟨3, ![4, 101, 321]⟩
abbrev S4x128x321 : Shape := ⟨3, ![4, 128, 321]⟩
abbrev S1x320 : Shape := ⟨2, ![1, 320]⟩
abbrev S321x320 : Shape := ⟨2, ![321, 320]⟩
abbrev S1x1024 : Shape := ⟨2, ![1, 1024]⟩
abbrev S321x1024 : Shape := ⟨2, ![321, 1024]⟩
abbrev S4x128 : Shape := ⟨2, ![4, 128]⟩
abbrev S4x1x128 : Shape := ⟨3, ![4, 1, 128]⟩
abbrev S4x200x128 : Shape := ⟨3, ![4, 200, 128]⟩
abbrev S1x40x144 : Shape := ⟨3, ![1, 40, 144]⟩
abbrev S1x128x321 : Shape := ⟨3, ![1, 128, 321]⟩
abbrev S1x1x128 : Shape := ⟨3, ![1, 1, 128]⟩
abbrev S1x40x128 : Shape := ⟨3, ![1, 40, 128]⟩
abbrev S320x128 : Shape := ⟨2, ![320, 128]⟩
abbrev S321x128 : Shape := ⟨2, ![321, 128]⟩
abbrev S128x321 : Shape := ⟨2, ![128, 321]⟩
abbrev S1024x128 : Shape := ⟨2, ![1024, 128]⟩
abbrev S1x128 : Shape := ⟨2, ![1, 128]⟩
abbrev S40x144 : Shape := ⟨2, ![40, 144]⟩
abbrev S320x40 : Shape := ⟨2, ![320, 40]⟩
abbrev S320x1 : Shape := ⟨2, ![320, 1]⟩
abbrev S128 : Shape := ⟨1, ![128]⟩
abbrev S320x5120 : Shape := ⟨2, ![320, 5120]⟩
abbrev S1x5120 : Shape := ⟨2, ![1, 5120]⟩
abbrev S321x5120 : Shape := ⟨2, ![321, 5120]⟩
abbrev S1024x5120 : Shape := ⟨2, ![1024, 5120]⟩
abbrev S5120 : Shape := ⟨1, ![5120]⟩
abbrev S512 : Shape := ⟨1, ![512]⟩
abbrev S1x512 : Shape := ⟨2, ![1, 512]⟩
abbrev S1x512x1 : Shape := ⟨3, ![1, 512, 1]⟩
abbrev S1x1 : Shape := ⟨2, ![1, 1]⟩
abbrev S328x512 : Shape := ⟨2, ![328, 512]⟩
abbrev S128x128 : Shape := ⟨2, ![128, 128]⟩
abbrev S1x200x128 : Shape := ⟨3, ![1, 200, 128]⟩
abbrev S200x128 : Shape := ⟨2, ![200, 128]⟩
abbrev S328x128 : Shape := ⟨2, ![328, 128]⟩
abbrev S1 : Shape := ⟨1, ![1]⟩

abbrev nBuf : Space → Nat
  | .hbm => 106
  | .vmem => 22
  | .smem => 0
  | _ => 0

abbrev bufTy : (tb : Table) → Fin (tcTables nBuf tb) → BufTy
  | .hbm, ⟨0, _⟩ => ⟨S4x200x144, .f32⟩
  | .hbm, ⟨1, _⟩ => ⟨S4x101x320, .f32⟩
  | .hbm, ⟨2, _⟩ => ⟨S144x320, .f32⟩
  | .hbm, ⟨3, _⟩ => ⟨S320, .f32⟩
  | .hbm, ⟨4, _⟩ => ⟨S320x320, .f32⟩
  | .hbm, ⟨5, _⟩ => ⟨S320, .f32⟩
  | .hbm, ⟨6, _⟩ => ⟨S320x1024, .f32⟩
  | .hbm, ⟨7, _⟩ => ⟨S1024, .f32⟩
  | .hbm, ⟨8, _⟩ => ⟨S4x100, .i32⟩
  | .hbm, ⟨9, _⟩ => ⟨S4, .i32⟩
  | .hbm, ⟨10, _⟩ => ⟨S4, .i32⟩
  | .hbm, ⟨11, _⟩ => ⟨S_, .f32⟩
  | .hbm, ⟨12, _⟩ => ⟨S4x101x1, .f32⟩
  | .hbm, ⟨13, _⟩ => ⟨S4x101x321, .f32⟩
  | .hbm, ⟨14, _⟩ => ⟨S_, .i32⟩
  | .hbm, ⟨15, _⟩ => ⟨S_, .f32⟩
  | .hbm, ⟨16, _⟩ => ⟨S4x128x321, .f32⟩
  | .hbm, ⟨17, _⟩ => ⟨S320, .f32⟩
  | .hbm, ⟨18, _⟩ => ⟨S1x320, .f32⟩
  | .hbm, ⟨19, _⟩ => ⟨S321x320, .f32⟩
  | .hbm, ⟨20, _⟩ => ⟨S1x1024, .f32⟩
  | .hbm, ⟨21, _⟩ => ⟨S321x1024, .f32⟩
  | .hbm, ⟨22, _⟩ => ⟨S321x1024, .bf16⟩
  | .hbm, ⟨23, _⟩ => ⟨S_, .i32⟩
  | .hbm, ⟨24, _⟩ => ⟨S_, .i32⟩
  | .hbm, ⟨25, _⟩ => ⟨S4x128, .i32⟩
  | .hbm, ⟨26, _⟩ => ⟨S4x1x128, .i32⟩
  | .hbm, ⟨27, _⟩ => ⟨S4x200x128, .f32⟩
  | .hbm, ⟨28, _⟩ => ⟨S4x200x128, .f32⟩
  | .hbm, ⟨29, _⟩ => ⟨S512, .i32⟩
  | .hbm, ⟨30, _⟩ => ⟨S1x512, .i32⟩
  | .hbm, ⟨31, _⟩ => ⟨S_, .i32⟩
  | .hbm, ⟨32, _⟩ => ⟨S_, .i32⟩
  | .hbm, ⟨33, _⟩ => ⟨S1x512, .i32⟩
  | .hbm, ⟨34, _⟩ => ⟨S1x512, .i32⟩
  | .hbm, ⟨35, _⟩ => ⟨S1x512, .i32⟩
  | .hbm, ⟨36, _⟩ => ⟨S_, .i32⟩
  | .hbm, ⟨37, _⟩ => ⟨S1x512, .i32⟩
  | .hbm, ⟨38, _⟩ => ⟨S1x512, .i1⟩
  | .hbm, ⟨39, _⟩ => ⟨S1x512, .i32⟩
  | .hbm, ⟨40, _⟩ => ⟨S1x512, .i32⟩
  | .hbm, ⟨41, _⟩ => ⟨S_, .i32⟩
  | .hbm, ⟨42, _⟩ => ⟨S1x512, .i32⟩
  | .hbm, ⟨43, _⟩ => ⟨S1x512, .i1⟩
  | .hbm, ⟨44, _⟩ => ⟨S1x512, .i1⟩
  | .hbm, ⟨45, _⟩ => ⟨S_, .i32⟩
  | .hbm, ⟨46, _⟩ => ⟨S1x512, .i32⟩
  | .hbm, ⟨47, _⟩ => ⟨S1x512, .i32⟩
  | .hbm, ⟨48, _⟩ => ⟨S1x512, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S1x512, .i32⟩
  | .hbm, ⟨56, _⟩ => ⟨S1x512, .i32⟩
  | .hbm, ⟨57, _⟩ => ⟨S_, .i32⟩
  | .hbm, ⟨58, _⟩ => ⟨S1x512, .i32⟩
  | .hbm, ⟨59, _⟩ => ⟨S1x512, .i1⟩
  | .hbm, ⟨60, _⟩ => ⟨S_, .i32⟩
  | .hbm, ⟨61, _⟩ => ⟨S1x512, .i32⟩
  | .hbm, ⟨62, _⟩ => ⟨S1x512, .i1⟩
  | .hbm, ⟨63, _⟩ => ⟨S_, .i32⟩
  | .hbm, ⟨64, _⟩ => ⟨S_, .i1⟩
  | .hbm, ⟨65, _⟩ => ⟨S1x512, .i1⟩
  | .hbm, ⟨66, _⟩ => ⟨S1x512, .i1⟩
  | .hbm, ⟨67, _⟩ => ⟨S1x512, .i1⟩
  | .hbm, ⟨68, _⟩ => ⟨S1x512, .i32⟩
  | .hbm, ⟨69, _⟩ => ⟨S1x512, .i32⟩
  | .hbm, ⟨70, _⟩ => ⟨S1x512, .i32⟩
  | .hbm, ⟨71, _⟩ => ⟨S_, .i32⟩
  | .hbm, ⟨72, _⟩ => ⟨S1x512, .i32⟩
  | .hbm, ⟨73, _⟩ => ⟨S1x512, .i1⟩
  | .hbm, ⟨74, _⟩ => ⟨S_, .i32⟩
  | .hbm, ⟨75, _⟩ => ⟨S1x512, .i32⟩
  | .hbm, ⟨76, _⟩ => ⟨S1x512, .i32⟩
  | .hbm, ⟨77, _⟩ => ⟨S1x512, .i32⟩
  | .hbm, ⟨78, _⟩ => ⟨S1x512x1, .i32⟩
  | .hbm, ⟨79, _⟩ => ⟨S1x512, .i32⟩
  | .hbm, ⟨80, _⟩ => ⟨S1x512, .i1⟩
  | .hbm, ⟨81, _⟩ => ⟨S1x512, .f32⟩
  | .hbm, ⟨82, _⟩ => ⟨S_, .i32⟩
  | .hbm, ⟨83, _⟩ => ⟨S1x512, .i32⟩
  | .hbm, ⟨84, _⟩ => ⟨S1x512, .i1⟩
  | .hbm, ⟨85, _⟩ => ⟨S_, .i32⟩
  | .hbm, ⟨86, _⟩ => ⟨S1x512, .i32⟩
  | .hbm, ⟨87, _⟩ => ⟨S1x512, .i32⟩
  | .hbm, ⟨88, _⟩ => ⟨S1x512, .i32⟩
  | .hbm, ⟨89, _⟩ => ⟨S1x512x1, .i32⟩
  | .hbm, ⟨90, _⟩ => ⟨S1x512, .i32⟩
  | .hbm, ⟨91, _⟩ => ⟨S_, .i32⟩
  | .hbm, ⟨92, _⟩ => ⟨S1x512, .i32⟩
  | .hbm, ⟨93, _⟩ => ⟨S1x512, .i32⟩
  | .hbm, ⟨94, _⟩ => ⟨S_, .i32⟩
  | .hbm, ⟨95, _⟩ => ⟨S1x512, .i32⟩
  | .hbm, ⟨96, _⟩ => ⟨S1x512, .i1⟩
  | .hbm, ⟨97, _⟩ => ⟨S_, .i32⟩
  | .hbm, ⟨98, _⟩ => ⟨S1x512, .i32⟩
  | .hbm, ⟨99, _⟩ => ⟨S1x512, .i32⟩
  | .hbm, ⟨100, _⟩ => ⟨S1x512, .i32⟩
  | .hbm, ⟨101, _⟩ => ⟨S1x512x1, .i32⟩
  | .hbm, ⟨102, _⟩ => ⟨S1x512, .i32⟩
  | .hbm, ⟨103, _⟩ => ⟨S1x512, .i32⟩
  | .hbm, ⟨104, _⟩ => ⟨S1x1, .f32⟩
  | .hbm, ⟨105, _⟩ => ⟨S_, .f32⟩
  | .local _ .vmem, ⟨0, _⟩ => ⟨S1x40x144, .f32⟩
  | .local _ .vmem, ⟨1, _⟩ => ⟨S1x40x144, .f32⟩
  | .local _ .vmem, ⟨2, _⟩ => ⟨S1x128x321, .f32⟩
  | .local _ .vmem, ⟨3, _⟩ => ⟨S1x128x321, .f32⟩
  | .local _ .vmem, ⟨4, _⟩ => ⟨S144x320, .f32⟩
  | .local _ .vmem, ⟨5, _⟩ => ⟨S321x320, .f32⟩
  | .local _ .vmem, ⟨6, _⟩ => ⟨S321x1024, .bf16⟩
  | .local _ .vmem, ⟨7, _⟩ => ⟨S1x1x128, .i32⟩
  | .local _ .vmem, ⟨8, _⟩ => ⟨S1x1x128, .i32⟩
  | .local _ .vmem, ⟨9, _⟩ => ⟨S1x40x128, .f32⟩
  | .local _ .vmem, ⟨10, _⟩ => ⟨S1x40x128, .f32⟩
  | .local _ .vmem, ⟨11, _⟩ => ⟨S1x40x128, .f32⟩
  | .local _ .vmem, ⟨12, _⟩ => ⟨S1x40x128, .f32⟩
  | .local _ .vmem, ⟨13, _⟩ => ⟨S320x128, .f32⟩
  | .local _ .vmem, ⟨14, _⟩ => ⟨S321x128, .f32⟩
  | .local _ .vmem, ⟨15, _⟩ => ⟨S4x200x128, .f32⟩
  | .local _ .vmem, ⟨16, _⟩ => ⟨S4x200x128, .f32⟩
  | .local _ .vmem, ⟨17, _⟩ => ⟨S1x512, .f32⟩
  | .local _ .vmem, ⟨18, _⟩ => ⟨S1x512, .i32⟩
  | .local _ .vmem, ⟨19, _⟩ => ⟨S1x1, .f32⟩
  | .local _ .vmem, ⟨20, _⟩ => ⟨S328x512, .f32⟩
  | .local _ .vmem, ⟨21, _⟩ => ⟨S328x512, .f32⟩
  | _, _ => ⟨S4x200x144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v14 : Ref sig .tc := ⟨.hbm, 48, rfl⟩
abbrev main_c_2 : Ref sig .tc := ⟨.hbm, 49, rfl⟩
abbrev main_call3_v0 : Ref sig .tc := ⟨.hbm, 50, rfl⟩
abbrev main_call3_c : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_c_1 : Ref sig .tc := ⟨.hbm, 57, rfl⟩
abbrev main_call3_v5 : Ref sig .tc := ⟨.hbm, 58, rfl⟩
abbrev main_call3_v6 : Ref sig .tc := ⟨.hbm, 59, rfl⟩
abbrev main_call3_c_2 : Ref sig .tc := ⟨.hbm, 60, rfl⟩
abbrev main_call3_v7 : Ref sig .tc := ⟨.hbm, 61, rfl⟩
abbrev main_call3_v8 : Ref sig .tc := ⟨.hbm, 62, rfl⟩
abbrev main_call3_c_3 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_v15 : Ref sig .tc := ⟨.hbm, 70, rfl⟩
abbrev main_c_3 : Ref sig .tc := ⟨.hbm, 71, rfl⟩
abbrev main_v16 : Ref sig .tc := ⟨.hbm, 72, rfl⟩
abbrev main_v17 : Ref sig .tc := ⟨.hbm, 73, rfl⟩
abbrev main_c_4 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_c_5 : Ref sig .tc := ⟨.hbm, 82, rfl⟩
abbrev main_v25 : Ref sig .tc := ⟨.hbm, 83, rfl⟩
abbrev main_v26 : Ref sig .tc := ⟨.hbm, 84, rfl⟩
abbrev main_c_6 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_7 : Ref sig .tc := ⟨.hbm, 91, rfl⟩
abbrev main_v32 : Ref sig .tc := ⟨.hbm, 92, rfl⟩
abbrev main_v33 : Ref sig .tc := ⟨.hbm, 93, rfl⟩
abbrev main_c_8 : Ref sig .tc := ⟨.hbm, 94, rfl⟩
abbrev main_v34 : Ref sig .tc := ⟨.hbm, 95, rfl⟩
abbrev main_v35 : Ref sig .tc := ⟨.hbm, 96, rfl⟩
abbrev main_c_9 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x40x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S144x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S321x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S321x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![1], ![false]⟩

@[reducible] def k1_t1_loop : Scf.Loop 32 :=
  let c0_i32_147 : BitVec 32 := 0#32
  let c150_i32 : BitVec 32 := 150#32
  let v404 : BitVec 32 := Scalar.addi c0_i32_147 c150_i32
  let c1_i32_148 : BitVec 32 := 1#32
  ⟨c0_i32_147, v404, c1_i32_148⟩
def k1_off1 (k1_t1 : Fin k1_t1_loop.trips) : Fin 2 → Nat :=
  let c2_i32_154 : BitVec 32 := 2#32
  let c0_i32_147 : BitVec 32 := 0#32
  let c1_i32_148 : BitVec 32 := 1#32
  let arg8 : BitVec 32 := Scf.iv c0_i32_147 c1_i32_148 k1_t1
  let v412 : BitVec 32 := Scalar.muli c2_i32_154 arg8
  let v413 : Index := Scalar.indexCast v412
  let c0_155 : Index := 0#32
  ![v413.toNat, 0]
def k1_off2 (k1_t1 : Fin k1_t1_loop.trips) : Fin 2 → Nat :=
  let c2_i32_154 : BitVec 32 := 2#32
  let c0_i32_147 : BitVec 32 := 0#32
  let c1_i32_148 : BitVec 32 := 1#32
  let arg8 : BitVec 32 := Scf.iv c0_i32_147 c1_i32_148 k1_t1
  let v412 : BitVec 32 := Scalar.muli c2_i32_154 arg8
  let c1_i32_156 : BitVec 32 := 1#32
  let v415 : BitVec 32 := Scalar.addi v412 c1_i32_156
  let v416 : Index := Scalar.indexCast v415
  let c0_157 : Index := 0#32
  ![v416.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x200x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S4x200x144 : Shape := ⟨3, ![4, 200, 144]⟩
abbrev S4x101x320 : Shape := ⟨3, ![4, 101, 320]⟩
abbrev S144x320 : Shape := ⟨2, ![144, 320]⟩
abbrev S320 : Shape := ⟨1, ![320]⟩
abbrev S320x320 : Shape := ⟨2, ![320, 320]⟩
abbrev S320x1024 : Shape := ⟨2, ![320, 1024]⟩
abbrev S1024 : Shape := ⟨1, ![1024]⟩
abbrev S4x100 : Shape := ⟨2, ![4, 100]⟩
abbrev S4 : Shape := ⟨1, ![4]⟩
abbrev S4x200x320 : Shape := ⟨3, ![4, 200, 320]⟩
abbrev S1x1x320 : Shape := ⟨3, ![1, 1, 320]⟩
abbrev S4x200x1x320 : Shape := ⟨4, ![4, 200, 1, 320]⟩
abbrev S4x1x101x320 : Shape := ⟨4, ![4, 1, 101, 320]⟩
abbrev S4x200x101x320 : Shape := ⟨4, ![4, 200, 101, 320]⟩
abbrev S4x200x101x1024 : Shape := ⟨4, ![4, 200, 101, 1024]⟩
abbrev S1x1x1x1024 : Shape := ⟨4, ![1, 1, 1, 1024]⟩
abbrev S_ : Shape := ⟨0, ![]⟩
abbrev S4x200x101 : Shape := ⟨3, ![4, 200, 101]⟩
abbrev S4x200x101x1 : Shape := ⟨4, ![4, 200, 101, 1]⟩
abbrev S4x1x100x1 : Shape := ⟨4, ![4, 1, 100, 1]⟩
abbrev S4x200x100x1 : Shape := ⟨4, ![4, 200, 100, 1]⟩
abbrev S4x200x100x1024 : Shape := ⟨4, ![4, 200, 100, 1024]⟩
abbrev S4x200x100x1x1 : Shape := ⟨5, ![4, 200, 100, 1, 1]⟩
abbrev S1 : Shape := ⟨1, ![1]⟩
abbrev S1x1x1x1x1 : Shape := ⟨5, ![1, 1, 1, 1, 1]⟩
abbrev S4x200x100 : Shape := ⟨3, ![4, 200, 100]⟩
abbrev S4x1 : Shape := ⟨2, ![4, 1]⟩
abbrev S4x1x100 : Shape := ⟨3, ![4, 1, 100]⟩
abbrev S4x101 : Shape := ⟨2, ![4, 101]⟩
abbrev S200x101x4 : Shape := ⟨3, ![200, 101, 4]⟩
abbrev S20200x4 : Shape := ⟨2, ![20200, 4]⟩
abbrev S101x4 : Shape := ⟨2, ![101, 4]⟩
abbrev S20099x4 : Shape := ⟨2, ![20099, 4]⟩
abbrev S1x4 : Shape := ⟨2, ![1, 4]⟩
abbrev S4x3 : Shape := ⟨2, ![4, 3]⟩

abbrev nBuf : Space → Nat
  | .hbm => 227
  | .vmem => 0
  | .smem => 0
  | _ => 0

abbrev hbmTy0_0 (i : Nat) : BufTy := match i % 128 with
  | 0 => ⟨S4x200x144, .f32⟩
  | 1 => ⟨S4x101x320, .f32⟩
  | 2 => ⟨S144x320, .f32⟩
  | 3 => ⟨S320, .f32⟩
  | 4 => ⟨S320x320, .f32⟩
  | 5 => ⟨S320, .f32⟩
  | 6 => ⟨S320x1024, .f32⟩
  | 7 => ⟨S1024, .f32⟩
  | 8 => ⟨S4x100, .i32⟩
  | 9 => ⟨S4, .i32⟩
  | 10 => ⟨S4, .i32⟩
  | 11 => ⟨S4x200x320, .f32⟩
  | 12 => ⟨S1x1x320, .f32⟩
  | 13 => ⟨S4x200x320, .f32⟩
  | 14 => ⟨S4x200x320, .f32⟩
  | 15 => ⟨S4x101x320, .f32⟩
  | 16 => ⟨S1x1x320, .f32⟩
  | 17 => ⟨S4x101x320, .f32⟩
  | 18 => ⟨S4x101x320, .f32⟩
  | 19 => ⟨S4x200x1x320, .f32⟩
  | 20 => ⟨S4x1x101x320, .f32⟩
  | 21 => ⟨S4x200x101x320, .f32⟩
  | 22 => ⟨S4x200x101x320, .f32⟩
  | 23 => ⟨S4x200x101x320, .f32⟩
  | 24 => ⟨S4x200x101x320, .f32⟩
  | 25 => ⟨S4x200x101x1024, .f32⟩
  | 26 => ⟨S1x1x1x1024, .f32⟩
  | 27 => ⟨S4x200x101x1024, .f32⟩
  | 28 => ⟨S4x200x101x1024, .f32⟩
  | 29 => ⟨S_, .f32⟩
  | 30 => ⟨S4x200x101, .f32⟩
  | 31 => ⟨S_, .f32⟩
  | 32 => ⟨S4x200x101, .f32⟩
  | 33 => ⟨S4x200x101, .f32⟩
  | 34 => ⟨S4x200x101x1, .f32⟩
  | 35 => ⟨S4x200x101x1024, .f32⟩
  | 36 => ⟨S4x200x101x1024, .f32⟩
  | 37 => ⟨S4x200x101x1024, .f32⟩
  | 38 => ⟨S_, .f32⟩
  | 39 => ⟨S4x200x101, .f32⟩
  | 40 => ⟨S4x200x101x1, .f32⟩
  | 41 => ⟨S4x200x101x1, .f32⟩
  | 42 => ⟨S4x200x101x1024, .f32⟩
  | 43 => ⟨S4x200x101x1024, .f32⟩
  | 44 => ⟨S4x200x101x1, .f32⟩
  | 45 => ⟨S4x200x101, .f32⟩
  | 46 => ⟨S4x1x100x1, .i32⟩
  | 47 => ⟨S4x200x100x1, .i32⟩
  | 48 => ⟨S4x200x100x1024, .f32⟩
  | 49 => ⟨S_, .i32⟩
  | 50 => ⟨S4x200x100x1, .i32⟩
  | 51 => ⟨S4x200x100x1, .i1⟩
  | 52 => ⟨S_, .i32⟩
  | 53 => ⟨S4x200x100x1, .i32⟩
  | 54 => ⟨S4x200x100x1, .i32⟩
  | 55 => ⟨S4x200x100x1, .i32⟩
  | 56 => ⟨S4x200x100x1x1, .i32⟩
  | 57 => ⟨S1, .i32⟩
  | 58 => ⟨S_, .i32⟩
  | 59 => ⟨S4x200x100x1x1, .i32⟩
  | 60 => ⟨S4x200x100x1x1, .i1⟩
  | 61 => ⟨S1x1x1x1x1, .i32⟩
  | 62 => ⟨S4x200x100x1x1, .i32⟩
  | 63 => ⟨S4x200x100x1x1, .i1⟩
  | 64 => ⟨S4x200x100x1x1, .i1⟩
  | 65 => ⟨S_, .i1⟩
  | 66 => ⟨S4x200x100x1, .i1⟩
  | 67 => ⟨S4x200x100x1, .f32⟩
  | 68 => ⟨S_, .f32⟩
  | 69 => ⟨S4x200x100x1, .f32⟩
  | 70 => ⟨S4x200x100x1, .f32⟩
  | 71 => ⟨S4x200x100, .f32⟩
  | 72 => ⟨S_, .f32⟩
  | 73 => ⟨S4x1, .f32⟩
  | 74 => ⟨S4x1x100, .f32⟩
  | 75 => ⟨S4x100, .f32⟩
  | 76 => ⟨S_, .f32⟩
  | 77 => ⟨S_, .f32⟩
  | 78 => ⟨S4x100, .f32⟩
  | 79 => ⟨S4x101, .f32⟩
  | 80 => ⟨S200x101x4, .f32⟩
  | 81 => ⟨S20200x4, .f32⟩
  | 82 => ⟨S_, .f32⟩
  | 83 => ⟨S_, .f32⟩
  | 84 => ⟨S4x200x101, .f32⟩
  | 85 => ⟨S200x101x4, .f32⟩
  | 86 => ⟨S20200x4, .f32⟩
  | 87 => ⟨S101x4, .f32⟩
  | 88 => ⟨S_, .f32⟩
  | 89 => ⟨S20099x4, .f32⟩
  | 90 => ⟨S20200x4, .f32⟩
  | 91 => ⟨S_, .i32⟩
  | 92 => ⟨S_, .i32⟩
  | 93 => ⟨S20200x4, .f32⟩
  | 94 => ⟨S20200x4, .f32⟩
  | 95 => ⟨S_, .i32⟩
  | 96 => ⟨S_, .i32⟩
  | 97 => ⟨S20200x4, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1x4, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x4, .f32⟩
  | 122 => ⟨S1x4, .f32⟩
  | 123 => ⟨S_, .i32⟩
  | 124 => ⟨S_, .i32⟩
  | 125 => ⟨S_, .i32⟩
  | 126 => ⟨S_, .i1⟩
  | 127 => ⟨S_, .i32⟩
  | _ => ⟨S4x200x144, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x4, .f32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S1x4, .f32⟩
  | 15 => ⟨S1x4, .f32⟩
  | 16 => ⟨S1x4, .f32⟩
  | 17 => ⟨S1x4, .f32⟩
  | 18 => ⟨S1x4, .i1⟩
  | 19 => ⟨S1x4, .f32⟩
  | 20 => ⟨S1x4, .f32⟩
  | 21 => ⟨S1x4, .f32⟩
  | 22 => ⟨S1x4, .f32⟩
  | 23 => ⟨S1x4, .f32⟩
  | 24 => ⟨S1x4, .f32⟩
  | 25 => ⟨S1x4, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S20200x4, .f32⟩
  | 34 => ⟨S_, .i32⟩
  | 35 => ⟨S_, .i32⟩
  | 36 => ⟨S200x101x4, .f32⟩
  | 37 => ⟨S4, .i32⟩
  | 38 => ⟨S_, .i32⟩
  | 39 => ⟨S4, .i32⟩
  | 40 => ⟨S4, .i32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S_, .i32⟩
  | 56 => ⟨S4, .i32⟩
  | 57 => ⟨S4, .i1⟩
  | 58 => ⟨S_, .i32⟩
  | 59 => ⟨S4, .i32⟩
  | 60 => ⟨S4, .i32⟩
  | 61 => ⟨S4, .i32⟩
  | 62 => ⟨S4x1, .i32⟩
  | 63 => ⟨S4x1, .i32⟩
  | 64 => ⟨S4x1, .i32⟩
  | 65 => ⟨S4x3, .i32⟩
  | 66 => ⟨S4, .f32⟩
  | 67 => ⟨S_, .i32⟩
  | 68 => ⟨S4, .i32⟩
  | 69 => ⟨S4, .i1⟩
  | 70 => ⟨S_, .i32⟩
  | 71 => ⟨S4, .i32⟩
  | 72 => ⟨S4, .i32⟩
  | 73 => ⟨S4, .i32⟩
  | 74 => ⟨S_, .i32⟩
  | 75 => ⟨S4, .i32⟩
  | 76 => ⟨S4, .i1⟩
  | 77 => ⟨S_, .i32⟩
  | 78 => ⟨S4, .i32⟩
  | 79 => ⟨S4, .i32⟩
  | 80 => ⟨S4, .i32⟩
  | 81 => ⟨S_, .i32⟩
  | 82 => ⟨S4, .i32⟩
  | 83 => ⟨S4, .i1⟩
  | 84 => ⟨S_, .i32⟩
  | 85 => ⟨S4, .i32⟩
  | 86 => ⟨S4, .i32⟩
  | 87 => ⟨S4, .i32⟩
  | 88 => ⟨S4x1, .i32⟩
  | 89 => ⟨S4x1, .i32⟩
  | 90 => ⟨S4x1, .i32⟩
  | 91 => ⟨S4x3, .i32⟩
  | 92 => ⟨S4, .f32⟩
  | 93 => ⟨S4, .f32⟩
  | 94 => ⟨S4, .f32⟩
  | 95 => ⟨S_, .f32⟩
  | 96 => ⟨S_, .f32⟩
  | 97 => ⟨S_, .f32⟩
  | 98 => ⟨S_, .f32⟩
  | _ => ⟨S4x200x144, .f32⟩

abbrev hbmTy (i : Nat) : BufTy := match i / 128 with
  | 0 => hbmTy0_0 i
  | 1 => hbmTy0_1 i
  | _ => ⟨S4x200x144, .f32⟩

abbrev bufTy : (tb : Table) → Fin (tcTables nBuf tb) → BufTy
  | .hbm, ⟨i, _⟩ => hbmTy i
  | _, _ => ⟨S4x200x144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v24 : Ref sig .tc := ⟨.hbm, 70, rfl⟩
abbrev main_v25 : Ref sig .tc := ⟨.hbm, 71, rfl⟩
abbrev main_cst : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_call2_call0_cst : Ref sig .tc := ⟨.hbm, 76, rfl⟩
abbrev main_call2_call0_v0 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_0 : Ref sig .tc := ⟨.hbm, 82, rfl⟩
abbrev main_call3_v0 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_1 : Ref sig .tc := ⟨.hbm, 88, rfl⟩
abbrev main_v37 : Ref sig .tc := ⟨.hbm, 89, rfl⟩
abbrev main_v38 : Ref sig .tc := ⟨.hbm, 90, rfl⟩
abbrev main_c : Ref sig .tc := ⟨.hbm, 91, rfl⟩
abbrev main_c_2 : Ref sig .tc := ⟨.hbm, 92, rfl⟩
abbrev main_v39_0 : Ref sig .tc := ⟨.hbm, 93, rfl⟩
abbrev main_v39_1 : Ref sig .tc := ⟨.hbm, 94, rfl⟩
abbrev main_v39_2 : Ref sig .tc := ⟨.hbm, 95, rfl⟩
abbrev main_v39_3 : Ref sig .tc := ⟨.hbm, 96, rfl⟩
abbrev main_v39_4 : Ref sig .tc := ⟨.hbm, 97, rfl⟩
abbrev main_while0c_c_22 : Ref sig .tc := ⟨.hbm, 98, rfl⟩
abbrev main_while0c_v88 : Ref sig .tc := ⟨.hbm, 99, rfl⟩
abbrev main_while0b_c_22 : Ref sig .tc := ⟨.hbm, 100, rfl⟩
abbrev main_while0b_v88 : Ref sig .tc := ⟨.hbm, 101, rfl⟩
abbrev main_while0b_c_23 : Ref sig .tc := ⟨.hbm, 102, rfl⟩
abbrev main_while0b_v89 : Ref sig .tc := ⟨.hbm, 103, rfl⟩
abbrev main_while0b_c_24 : Ref sig .tc := ⟨.hbm, 104, rfl⟩
abbrev main_while0b_v90 : Ref sig .tc := ⟨.hbm, 105, rfl⟩
abbrev main_while0b_v91 : Ref sig .tc := ⟨.hbm, 106, rfl⟩
abbrev main_while0b_c_25 : Ref sig .tc := ⟨.hbm, 107, rfl⟩
abbrev main_while0b_v92 : Ref sig .tc := ⟨.hbm, 108, rfl⟩
abbrev main_while0b_v93 : Ref sig .tc := ⟨.hbm, 109, rfl⟩
abbrev main_while0b_c_26 : Ref sig .tc := ⟨.hbm, 110, rfl⟩
abbrev main_while0b_v94 : Ref sig .tc := ⟨.hbm, 111, rfl⟩
abbrev main_while0b_c_27 : Ref sig .tc := ⟨.hbm, 112, rfl⟩
abbrev main_while0b_v95 : Ref sig .tc := ⟨.hbm, 113, rfl⟩
abbrev main_while0b_c_28 : Ref sig .tc := ⟨.hbm, 114, rfl⟩
abbrev main_while0b_v96 : Ref sig .tc := ⟨.hbm, 115, rfl⟩
abbrev main_while0b_v97 : Ref sig .tc := ⟨.hbm, 116, rfl⟩
abbrev main_while0b_c_29 : Ref sig .tc := ⟨.hbm, 117, rfl⟩
abbrev main_while0b_v98 : Ref sig .tc := ⟨.hbm, 118, rfl⟩
abbrev main_while0b_v99 : Ref sig .tc := ⟨.hbm, 119, rfl⟩
abbrev main_while0b_c_30 : Ref sig .tc := ⟨.hbm, 120, rfl⟩
abbrev main_while0b_v100 : Ref sig .tc := ⟨.hbm, 121, rfl⟩
abbrev main_while0b_v101 : Ref sig .tc := ⟨.hbm, 122, rfl⟩
abbrev main_while0b_c_31 : Ref sig .tc := ⟨.hbm, 123, rfl⟩
abbrev main_while0b_v102 : Ref sig .tc := ⟨.hbm, 124, rfl⟩
abbrev main_while0b_c_32 : Ref sig .tc := ⟨.hbm, 125, rfl⟩
abbrev main_while0b_v103 : Ref sig .tc := ⟨.hbm, 126, rfl⟩
abbrev main_while0b_v104 : Ref sig .tc := ⟨.hbm, 127, rfl⟩
abbrev main_while0b_c_33 : Ref sig .tc := ⟨.hbm, 128, rfl⟩
abbrev main_while0b_v105 : Ref sig .tc := ⟨.hbm, 129, rfl⟩
abbrev main_while0b_v106 : Ref sig .tc := ⟨.hbm, 130, rfl⟩
abbrev main_while0b_c_34 : Ref sig .tc := ⟨.hbm, 131, rfl⟩
abbrev main_while0b_v107 : Ref sig .tc := ⟨.hbm, 132, rfl⟩
abbrev main_while0b_c_35 : Ref sig .tc := ⟨.hbm, 133, rfl⟩
abbrev main_while0b_v108 : Ref sig .tc := ⟨.hbm, 134, rfl⟩
abbrev main_while0b_c_36 : Ref sig .tc := ⟨.hbm, 135, rfl⟩
abbrev main_while0b_v109 : Ref sig .tc := ⟨.hbm, 136, rfl⟩
abbrev main_while0b_v110 : Ref sig .tc := ⟨.hbm, 137, rfl⟩
abbrev main_while0b_c_37 : Ref sig .tc := ⟨.hbm, 138, rfl⟩
abbrev main_while0b_v111 : Ref sig .tc := ⟨.hbm, 139, rfl⟩
abbrev main_while0b_v112 : Ref sig .tc := ⟨.hbm, 140, rfl⟩
abbrev main_while0b_c_38 : Ref sig .tc := ⟨.hbm, 141, rfl⟩
abbrev main_while0b_v113 : Ref sig .tc := ⟨.hbm, 142, rfl⟩
abbrev main_while0b_v114 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_v118 : Ref sig .tc := ⟨.hbm, 147, rfl⟩
abbrev main_while0b_v119 : Ref sig .tc := ⟨.hbm, 148, rfl⟩
abbrev main_while0b_v120 : Ref sig .tc := ⟨.hbm, 149, rfl⟩
abbrev main_while0b_v121 : Ref sig .tc := ⟨.hbm, 150, rfl⟩
abbrev main_while0b_v122 : Ref sig .tc := ⟨.hbm, 151, rfl⟩
abbrev main_while0b_v123 : Ref sig .tc := ⟨.hbm, 152, rfl⟩
abbrev main_while0b_v124 : Ref sig .tc := ⟨.hbm, 153, rfl⟩
abbrev main_while0b_c_39 : Ref sig .tc := ⟨.hbm, 154, rfl⟩
abbrev main_while0b_v125 : Ref sig .tc := ⟨.hbm, 155, rfl⟩
abbrev main_while0b_v126 : Ref sig .tc := ⟨.hbm, 156, rfl⟩
abbrev main_while0b_c_40 : Ref sig .tc := ⟨.hbm, 157, rfl⟩
abbrev main_while0b_v127 : Ref sig .tc := ⟨.hbm, 158, rfl⟩
abbrev main_while0b_v128 : Ref sig .tc := ⟨.hbm, 159, rfl⟩
abbrev main_while0b_c_41 : Ref sig .tc := ⟨.hbm, 160, rfl⟩
abbrev main_while0b_v129 : Ref sig .tc := ⟨.hbm, 161, rfl⟩
abbrev main_while0b_c_42 : Ref sig .tc := ⟨.hbm, 162, rfl⟩
abbrev main_while0b_v130 : Ref sig .tc := ⟨.hbm, 163, rfl⟩
abbrev main_v40 : Ref sig .tc := ⟨.hbm, 164, rfl⟩
abbrev main_v41 : Ref sig .tc := ⟨.hbm, 165, rfl⟩
abbrev main_c_3 : Ref sig .tc := ⟨.hbm, 166, rfl⟩
abbrev main_v42 : Ref sig .tc := ⟨.hbm, 167, rfl⟩
abbrev main_v43 : Ref sig .tc := ⟨.hbm, 168, rfl⟩
abbrev main_c_4 : Ref sig .tc := ⟨.hbm, 169, rfl⟩
abbrev main_v44 : Ref sig .tc := ⟨.hbm, 170, rfl⟩
abbrev main_v45 : Ref sig .tc := ⟨.hbm, 171, rfl⟩
abbrev main_c_5 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_c_6 : Ref sig .tc := ⟨.hbm, 176, rfl⟩
abbrev main_v49 : Ref sig .tc := ⟨.hbm, 177, rfl⟩
abbrev main_v50 : Ref sig .tc := ⟨.hbm, 178, rfl⟩
abbrev main_c_7 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_c_8 : Ref sig .tc := ⟨.hbm, 183, rfl⟩
abbrev main_v54 : Ref sig .tc := ⟨.hbm, 184, rfl⟩
abbrev main_v55 : Ref sig .tc := ⟨.hbm, 185, rfl⟩
abbrev main_c_9 : Ref sig .tc := ⟨.hbm, 186, rfl⟩
abbrev main_v56 : Ref sig .tc := ⟨.hbm, 187, rfl⟩
abbrev main_v57 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_c_10 : Ref sig .tc := ⟨.hbm, 195, rfl⟩
abbrev main_v64 : Ref sig .tc := ⟨.hbm, 196, rfl⟩
abbrev main_v65 : Ref sig .tc := ⟨.hbm, 197, rfl⟩
abbrev main_c_11 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_c_12 : Ref sig .tc := ⟨.hbm, 202, rfl⟩
abbrev main_v69 : Ref sig .tc := ⟨.hbm, 203, rfl⟩
abbrev main_v70 : Ref sig .tc := ⟨.hbm, 204, rfl⟩
abbrev main_c_13 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_c_14 : Ref sig .tc := ⟨.hbm, 209, rfl⟩
abbrev main_v74 : Ref sig .tc := ⟨.hbm, 210, rfl⟩
abbrev main_v75 : Ref sig .tc := ⟨.hbm, 211, rfl⟩
abbrev main_c_15 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_cst_16 : Ref sig .tc := ⟨.hbm, 223, rfl⟩
abbrev main_v86 : Ref sig .tc := ⟨.hbm, 224, rfl⟩
abbrev main_cst_17 : Ref sig .tc := ⟨.hbm, 225, rfl⟩
abbrev main_v87 : Ref sig .tc := ⟨.hbm, 226, rfl⟩

abbrev nD : Nat := 1
abbrev τ : Topo := Topo.v7x

variable {F : FTy → Type} [FloatOps F]

abbrev main_while0_count : Scf.Loop 32 := ⟨0#32, 20099#32, 1#32⟩
-- ==== Proof.Twin.lean ====
/-
The two printed kernels run one program at bit patterns. They differ in the spelling of one literal, the mask's, which
the second names; read at bit patterns the name stands for its own pattern. So a frame proved of the second at every
float instance is the first's at bit patterns.
-/
module

public import proofs.«01_k».proof.Defs
public import proofs.«01_k».proof.Proof.Gen.Kernel
public import proofs.«01_k».proof.Proof.Gen.KernelIdeal
public import Idealize.ShloMosaic.Adequacy
public import Idealize.ShloMosaic.Lib.Tactic

@[expose] public section

set_option maxRecDepth 100000

noncomputable section

namespace Cert.KernelIdeal.Gen

open Idealize.ShloMosaic Idealize.SL.Sem Cert.KernelIdeal

/-- Every run ends, with the arguments as they were and every semaphore at zero. -/
def Framed (F : FTy → Type) [FloatOps F] [Named F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

/-- At bit patterns a named literal is the pattern it was printed with. -/
@[reducible] def asPrinted : Named Bits where
  named _ _ {φ} bits := Scalar.ofBits φ bits

set_option maxHeartbeats 0 in
theorem framed_same : @Framed Bits _ asPrinted = Cert.quiescent_Kernel (hKernel := Cert.Kernel.Gen.facts) := by
  sl_kernel_rfl

theorem framed_ideal : Framed Ideal = Cert.quiescent_KernelIdeal (hKernelIdeal := facts) := rfl

end Cert.KernelIdeal.Gen

end
-- ==== Proof.JointBody.lean ====
/-
The joint kernel's body, run at one point: which rows it stores, in closed form. The forty blocks of the join differ in
one number, the time step inside the block, so each row is one function of that number.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section
set_option maxRecDepth 16384
noncomputable section
namespace Cert.KernelIdeal.Joint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's test: the point is a batch's first block. -/
abbrev cond0 (i : grid0.Coords) : Prop := (Scalar.cmpi .ne (Scalar.extui (Scalar.cmpi .eq (BitVec.ofNat 32 (i 1).val) 0#32)) 0#32) = 1#1

/-! ## The rows -/

theorem col_slices (t : Fin 40) : S320x40.Slices ![0, t.val] S320x1 :=
  ⟨rfl, fun | 0 => by show 0 + 320 ≤ 320; omega | 1 => by show t.val + 1 ≤ 40; omega⟩
theorem lane_slices (t : Fin 40) : S1x5120.Slices ![0, 128 * t.val] S1x128 :=
  ⟨rfl, fun | 0 => by show 0 + 1 ≤ 1; omega | 1 => by show 128 * t.val + 128 ≤ 5120; omega⟩
theorem row_inb (t : Fin 40) : ∀ a, (![0, t.val, 0] : Fin 3 → Nat) a + S1x1x128.size a ≤ S1x40x128.size a :=
  fun | 0 => by show 0 + 1 ≤ 1; omega | 1 => by show t.val + 1 ≤ 40; omega | 2 => by show 0 + 128 ≤ 128; omega

/-- `tanh` of the join at step `t` of the block: the encoder's column broadcast over the lanes, plus the decoder's. -/
def jt (e : FVec F S320x40 .f32) (d : FVec F S320x128 .f32) (t : Fin 40) : FVec F S320x128 .f32 :=
  tanh (addf (broadcastTo S320x128 (extractStridedSlice S320x1 ![0, t.val] e (col_slices t)) broadcasts_S320x1_S320x128) d)

/-- The target's logit at step `t`. -/
def hit (e : FVec F S320x40 .f32) (d : FVec F S320x128 .f32) (w : FVec F S321x128 .f32) (t : Fin 40) : FVec F S1x128 .f32 :=
  addf (shapeCast S1x128 (multiReduction .add [0] S128 (mulf (jt e d t) (extractStridedSlice S320x128 ![0, 0] w slices_S321x128_o0_0_S320x128))
      0x00000000#32 reduces_S320x128_S128 (.inl rfl) rfl) shapeCasts_S128_S1x128)
    (extractStridedSlice S1x128 ![320, 0] w slices_S321x128_o320_0_S1x128)

/-- The block's steps, in order. -/
def steps : List (Fin 40) := [0, 1, 2, 3, 4, 5, 6, 7, 8, 9, 10, 11, 12, 13, 14, 15, 16, 17, 18, 19, 20, 21, 22, 23, 24, 25, 26, 27, 28, 29, 30, 31, 32, 33, 34, 35, 36, 37, 38, 39]

/-- The forty joins side by side, with the row of ones the output bias multiplies. -/
def joined (e : FVec F S320x40 .f32) (d : FVec F S320x128 .f32) : FVec F S321x5120 .bf16 :=
  concatenate S321x5120 0
    [⟨S320x5120, concatenate S320x5120 1 (steps.map fun t => ⟨S320x128, truncf .bf16 (jt e d t) bitsLt_bf16_f32⟩)
        concatenates_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x5120_d1⟩,
     ⟨S1x5120, broadcast S1x5120 (Scalar.ofBits .bf16 0x3F80#16 : F .bf16)⟩] concatenates_S320x5120_S1x5120_S321x5120_d0

/-- The block's logits: symbol by (step, lane). -/
def logits (e : FVec F S320x40 .f32) (d : FVec F S320x128 .f32) (u : FVec F S321x1024 .bf16) : FVec F S1024x5120 .f32 :=
  matmul dot_S321x1024_S321x5120_S1024x5120_0_0_1_1_n_n none (shapeCast S321x1024 u shapeCasts_S321x1024_S321x1024) (joined e d)
    (constant S1024x5120 .f32 0x00000000#32)

/-- The logarithm of the symbols' summed exponentials, by (step, lane). -/
def lse (e : FVec F S320x40 .f32) (d : FVec F S320x128 .f32) (u : FVec F S321x1024 .bf16) : FVec F S1x5120 .f32 :=
  log (shapeCast S1x5120 (multiReduction .add [0] S5120 (exp (logits e d u)) 0x00000000#32 reduces_S1024x5120_S5120 (.inl rfl) rfl)
    shapeCasts_S5120_S1x5120)

/-- The blank symbol's log-probability, by (step, lane). -/
def blanks (e : FVec F S320x40 .f32) (d : FVec F S320x128 .f32) (u : FVec F S321x1024 .bf16) : FVec F S1x5120 .f32 :=
  subf (extractStridedSlice S1x5120 ![0, 0] (logits e d u) slices_S1024x5120_o0_0_S1x5120) (lse e d u)

/-- Row `t` of the blank block. -/
def blankRow (b : FVec F S1x5120 .f32) (t : Fin 40) : FVec F S1x1x128 .f32 :=
  shapeCast S1x1x128 (extractStridedSlice S1x128 ![0, 128 * t.val] b (lane_slices t)) shapeCasts_S1x128_S1x1x128

/-- Row `t` of the emit block. -/
def emitRow (h : FVec F S1x128 .f32) (l : FVec F S1x5120 .f32) (t : Fin 40) : FVec F S1x1x128 .f32 :=
  shapeCast S1x1x128 (subf h (extractStridedSlice S1x128 ![0, 128 * t.val] l (lane_slices t))) shapeCasts_S1x128_S1x1x128

/-- The stores of one output: row `t` at `t`, the last first. -/
def rows (g : Fin 40 → FVec F S1x1x128 .f32) : List (View.Piece (Elt F) S1x40x128 .f32) :=
  steps.reverse.map fun t => ⟨Rect.unit (s := S1x40x128) ![0, t.val, 0] S1x1x128.size (row_inb t), g t⟩

/-! ## The runs -/

set_option maxHeartbeats 1376000 in
/-- A batch's first block: the scratch is written, then read. -/
def runFirst (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) :
    Σ' (L6 : List (View.Piece (Elt F) S1x40x128 .f32)), Σ' (L7 : List (View.Piece (Elt F) S1x40x128 .f32)), Σ' (LS0 : List (View.Piece (Elt F) S320x128 .f32)), { LS1 : List (View.Piece (Elt F) S321x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__joint_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__joint_kernel_eq_skeleton]; unfold cc0__joint_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

set_option maxHeartbeats 1376000 in
/-- A later block of a batch: the scratch is read as the earlier one left it. -/
def runLater (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) :
    Σ' (L6 : List (View.Piece (Elt F) S1x40x128 .f32)), { L7 : List (View.Piece (Elt F) S1x40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y0 ∗ owns (c : Thread nD τ) arg11 fullShare y1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare y0 ∗ owns (c : Thread nD τ) arg11 fullShare y1) -∗ K ⟨⟩))
          ⊢ wp frame (wpE (defs₀ (F := F)) Variants.none c none) E (cc0__joint_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__joint_kernel_eq_skeleton]; unfold cc0__joint_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexists _; isplitr; · ipureintro; exact harg11.read_unread _
    iexact HS1

/-! ## The runs' stores are those rows -/

/-- The load of all of a buffer. -/
def allOf {κ : Kind} {sp : Space} {s : Shape} {e : EltTy} (v : View sig κ sp s e) (off : Fin s.rank → ℕ) (inb : ∀ a, off a + s.size a ≤ s.size a)
    (f : v.ty.Contents (Elt F)) : Vec F s e :=
  v.readAt (Elt F) (Rect.unit off s.size inb).toLoadRect f
theorem allOf_eq {κ : Kind} {sp : Space} {s : Shape} {e : EltTy} (v : View sig κ sp s e) (off : Fin s.rank → ℕ) (inb : ∀ a, off a + s.size a ≤ s.size a)
    (f : v.ty.Contents (Elt F)) : allOf v off inb f = v.read (Elt F) f := View.readAt_full v f inb
/-- The load of all of a buffer stored whole. -/
def putAll {κ : Kind} {sp : Space} {s : Shape} {e : EltTy} (v : View sig κ sp s e) (off : Fin s.rank → ℕ) (inb : ∀ a, off a + s.size a ≤ s.size a)
    (w : Vec F s e) : Vec F s e :=
  v.readCov (Val := Elt F) [⟨Rect.unit off s.size inb, w⟩] (Rect.unit off s.size inb).toLoadRect
theorem putAll_eq {κ : Kind} {sp : Space} {s : Shape} {e : EltTy} (v : View sig κ sp s e) (off : Fin s.rank → ℕ) (inb : ∀ a, off a + s.size a ≤ s.size a)
    (w : Vec F s e) : putAll v off inb w = w := View.readCov_full v inb inb w []

/-- The rows stored from an encoder block, an encoder weight, the scratch pair and the output weight. -/
def blankPcs (v3 : FVec F S144x320 .f32) (v4 : FVec F S1x40x144 .f32) (d : FVec F S320x128 .f32) (u : FVec F S321x1024 .bf16) :
    List (View.Piece (Elt F) S1x40x128 .f32) :=
  rows fun t => blankRow (blanks (k0_pay3 v3 v4) d u) t
def emitPcs (v3 : FVec F S144x320 .f32) (v4 : FVec F S1x40x144 .f32) (d : FVec F S320x128 .f32) (w : FVec F S321x128 .f32) (u : FVec F S321x1024 .bf16) :
    List (View.Piece (Elt F) S1x40x128 .f32) :=
  rows fun t => emitRow (hit (k0_pay3 v3 v4) d w t) (lse (k0_pay3 v3 v4) d u) t

theorem runFirst_blank (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) :
    (runFirst c i arg2 harg2 arg3 harg3 arg4 harg4 arg5 harg5 arg6 harg6 arg7 harg7 arg8 harg8 arg9 harg9 arg10 harg10 arg11 harg11 hc0 x0 x1 x2 x3 x4 x5).1 = blankPcs (allOf arg4.view ![0, 0] inb_S144x320_S144x320_0_0 (harg4.unread x2)) (allOf arg2.view ![0, 0, 0] inb_S1x40x144_S1x40x144_0_0_0 (harg2.unread x0)) (putAll arg10.view ![0, 0] inb_S320x128_S320x128_0_0 (k0_pay1 (allOf arg5.view ![0, 0] inb_S321x320_S321x320_0_0 (harg5.unread x3)) (allOf arg3.view ![0, 0, 0] inb_S1x128x321_S1x128x321_0_0_0 (harg3.unread x1)))) (allOf arg6.view ![0, 0] inb_S321x1024_S321x1024_0_0 (harg6.unread x4)) := by
  sl_kernel_rfl
theorem runFirst_emit (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) :
    (runFirst c i arg2 harg2 arg3 harg3 arg4 harg4 arg5 harg5 arg6 harg6 arg7 harg7 arg8 harg8 arg9 harg9 arg10 harg10 arg11 harg11 hc0 x0 x1 x2 x3 x4 x5).2.1 = emitPcs (allOf arg4.view ![0, 0] inb_S144x320_S144x320_0_0 (harg4.unread x2)) (allOf arg2.view ![0, 0, 0] inb_S1x40x144_S1x40x144_0_0_0 (harg2.unread x0)) (putAll arg10.view ![0, 0] inb_S320x128_S320x128_0_0 (k0_pay1 (allOf arg5.view ![0, 0] inb_S321x320_S321x320_0_0 (harg5.unread x3)) (allOf arg3.view ![0, 0, 0] inb_S1x128x321_S1x128x321_0_0_0 (harg3.unread x1)))) (putAll arg11.view ![0, 0] inb_S321x128_S321x128_0_0 (k0_pay2 (allOf arg7.view ![0, 0, 0] inb_S1x1x128_S1x1x128_0_0_0 (harg7.unread x5)) (allOf arg6.view ![0, 0] inb_S321x1024_S321x1024_0_0 (harg6.unread x4)))) (allOf arg6.view ![0, 0] inb_S321x1024_S321x1024_0_0 (harg6.unread x4)) := by
  sl_kernel_rfl
theorem runFirst_dec (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) :
    (runFirst c i arg2 harg2 arg3 harg3 arg4 harg4 arg5 harg5 arg6 harg6 arg7 harg7 arg8 harg8 arg9 harg9 arg10 harg10 arg11 harg11 hc0 x0 x1 x2 x3 x4 x5).2.2.1 = [⟨Rect.unit (s := S320x128) ![0, 0] S320x128.size inb_S320x128_S320x128_0_0, (k0_pay1 (allOf arg5.view ![0, 0] inb_S321x320_S321x320_0_0 (harg5.unread x3)) (allOf arg3.view ![0, 0, 0] inb_S1x128x321_S1x128x321_0_0_0 (harg3.unread x1)))⟩] := by
  sl_kernel_rfl
theorem runFirst_tgt (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) :
    (runFirst c i arg2 harg2 arg3 harg3 arg4 harg4 arg5 harg5 arg6 harg6 arg7 harg7 arg8 harg8 arg9 harg9 arg10 harg10 arg11 harg11 hc0 x0 x1 x2 x3 x4 x5).2.2.2.1 = [⟨Rect.unit (s := S321x128) ![0, 0] S321x128.size inb_S321x128_S321x128_0_0, (k0_pay2 (allOf arg7.view ![0, 0, 0] inb_S1x1x128_S1x1x128_0_0_0 (harg7.unread x5)) (allOf arg6.view ![0, 0] inb_S321x1024_S321x1024_0_0 (harg6.unread x4)))⟩] := by
  sl_kernel_rfl
theorem runLater_blank (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) :
    (runLater c i arg2 harg2 arg3 harg3 arg4 harg4 arg5 harg5 arg6 harg6 arg7 harg7 arg8 harg8 arg9 harg9 arg10 harg10 arg11 harg11 hc0 x0 x1 x2 x3 x4 x5 y0 y1).1 = blankPcs (allOf arg4.view ![0, 0] inb_S144x320_S144x320_0_0 (harg4.unread x2)) (allOf arg2.view ![0, 0, 0] inb_S1x40x144_S1x40x144_0_0_0 (harg2.unread x0)) (allOf arg10.view ![0, 0] inb_S320x128_S320x128_0_0 (harg10.unread y0)) (allOf arg6.view ![0, 0] inb_S321x1024_S321x1024_0_0 (harg6.unread x4)) := by
  sl_kernel_rfl
theorem runLater_emit (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) :
    (runLater c i arg2 harg2 arg3 harg3 arg4 harg4 arg5 harg5 arg6 harg6 arg7 harg7 arg8 harg8 arg9 harg9 arg10 harg10 arg11 harg11 hc0 x0 x1 x2 x3 x4 x5 y0 y1).2.1 = emitPcs (allOf arg4.view ![0, 0] inb_S144x320_S144x320_0_0 (harg4.unread x2)) (allOf arg2.view ![0, 0, 0] inb_S1x40x144_S1x40x144_0_0_0 (harg2.unread x0)) (allOf arg10.view ![0, 0] inb_S320x128_S320x128_0_0 (harg10.unread y0)) (allOf arg11.view ![0, 0] inb_S321x128_S321x128_0_0 (harg11.unread y1)) (allOf arg6.view ![0, 0] inb_S321x1024_S321x1024_0_0 (harg6.unread x4)) := by
  sl_kernel_rfl

/-! ## What the stores leave -/

/-- A row's cell under a block's: the lane. -/
def cell (y : S1x40x128.Idx) : S1x1x128.Idx := fun | 0 => ⟨0, by decide⟩ | 1 => ⟨0, by decide⟩ | 2 => y 2

theorem rows_read {κ : Kind} {sp : Space} (v : View sig κ sp S1x40x128 .f32) (f : v.ty.Contents (Elt F)) (g : Fin 40 → FVec F S1x1x128 .f32) :
    v.read (Elt F) (v.writes (Elt F) f (rows g)) = fun y => g (y 1) (cell y) := by
  funext y
  refine View.read_writes_apply_of_pieces v f (fun y => g (y 1) (cell y)) (rows g) ?_ y ?_
  · intro p hp x
    obtain ⟨t, -, rfl⟩ := List.mem_map.1 hp
    have h0 : (x 0).val = 0 := by have : (x 0).val < 1 := (x 0).isLt; omega
    have h1 : (x 1).val = 0 := by have : (x 1).val < 1 := (x 1).isLt; omega
    have ht : ((Rect.unit (s := S1x40x128) ![0, t.val, 0] S1x1x128.size (row_inb t)).emb x) 1 = t :=
      Fin.ext (by show t.val + 1 * (x 1).val = t.val; omega)
    show g t x = g (((Rect.unit (s := S1x40x128) ![0, t.val, 0] S1x1x128.size (row_inb t)).emb x) 1) _
    rw [ht]
    congr 1
    funext a
    fin_cases a
    · exact Fin.ext h0
    · exact Fin.ext h1
    · exact Fin.ext (by show (x 2).val = 0 + 1 * (x 2).val; omega)
  · refine ⟨_, List.mem_map.2 ⟨y 1, ?_, rfl⟩, ?_⟩
    · exact List.mem_reverse.2 ((by decide : ∀ t : Fin 40, t ∈ steps) (y 1))
    · refine (Rect.mem_set_unit (inb := row_inb (y 1))).2 fun a => ?_
      fin_cases a
      · exact ⟨Nat.zero_le _, by have := (y 0).isLt; exact this⟩
      · exact ⟨Nat.le_refl _, Nat.lt_succ_self _⟩
      · exact ⟨Nat.zero_le _, by have := (y 2).isLt; show (y 2).val < 0 + 128; exact (Nat.zero_add 128).symm ▸ this⟩

/-- The decoder's half of the join, of its block and its augmented weight. -/
def decPart (x1 : Vec F S1x128x321 .f32) (x3 : Vec F S321x320 .f32) : FVec F S320x128 .f32 := k0_pay1 x3 x1
/-- The output weight's columns at the targets. -/
def tgtPart (x4 : Vec F S321x1024 .bf16) (x5 : Vec F S1x1x128 .i32) : FVec F S321x128 .f32 := k0_pay2 x5 x4
/-- The blank block. -/
def blankBlk (x0 : Vec F S1x40x144 .f32) (x2 : Vec F S144x320 .f32) (x4 : Vec F S321x1024 .bf16) (d : FVec F S320x128 .f32) : Vec F S1x40x128 .f32 :=
  fun y => blankRow (blanks (k0_pay3 x2 x0) d x4) (y 1) (cell y)
/-- The emit block. -/
def emitBlk (x0 : Vec F S1x40x144 .f32) (x2 : Vec F S144x320 .f32) (x4 : Vec F S321x1024 .bf16) (d : FVec F S320x128 .f32) (w : FVec F S321x128 .f32) :
    Vec F S1x40x128 .f32 :=
  fun y => emitRow (hit (k0_pay3 x2 x0) d w (y 1)) (lse (k0_pay3 x2 x0) d x4) (y 1) (cell y)

theorem first_blank (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (f) :
    arg8.view.read (Elt F) (arg8.view.writes (Elt F) f (runFirst c i arg2 harg2 arg3 harg3 arg4 harg4 arg5 harg5 arg6 harg6 arg7 harg7 arg8 harg8 arg9 harg9 arg10 harg10 arg11 harg11 hc0 x0 x1 x2 x3 x4 x5).1) = blankBlk x0 x2 x4 (decPart x1 x3) := by
  rw [runFirst_blank]
  unfold blankPcs
  rw [rows_read]
  simp only [putAll_eq, allOf_eq, harg2.read_unread, harg3.read_unread, harg4.read_unread, harg5.read_unread, harg6.read_unread, harg7.read_unread]
  rfl
theorem first_emit (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (f) :
    arg9.view.read (Elt F) (arg9.view.writes (Elt F) f (runFirst c i arg2 harg2 arg3 harg3 arg4 harg4 arg5 harg5 arg6 harg6 arg7 harg7 arg8 harg8 arg9 harg9 arg10 harg10 arg11 harg11 hc0 x0 x1 x2 x3 x4 x5).2.1) = emitBlk x0 x2 x4 (decPart x1 x3) (tgtPart x4 x5) := by
  rw [runFirst_emit]
  unfold emitPcs
  rw [rows_read]
  simp only [putAll_eq, allOf_eq, harg2.read_unread, harg3.read_unread, harg4.read_unread, harg5.read_unread, harg6.read_unread, harg7.read_unread]
  rfl
theorem first_dec (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (f) :
    arg10.view.read (Elt F) (arg10.view.writes (Elt F) f (runFirst c i arg2 harg2 arg3 harg3 arg4 harg4 arg5 harg5 arg6 harg6 arg7 harg7 arg8 harg8 arg9 harg9 arg10 harg10 arg11 harg11 hc0 x0 x1 x2 x3 x4 x5).2.2.1) = (decPart x1 x3) := by
  rw [runFirst_dec, View.read_writes_full]
  simp only [putAll_eq, allOf_eq, harg2.read_unread, harg3.read_unread, harg4.read_unread, harg5.read_unread, harg6.read_unread, harg7.read_unread]
  rfl
theorem first_tgt (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (f) :
    arg11.view.read (Elt F) (arg11.view.writes (Elt F) f (runFirst c i arg2 harg2 arg3 harg3 arg4 harg4 arg5 harg5 arg6 harg6 arg7 harg7 arg8 harg8 arg9 harg9 arg10 harg10 arg11 harg11 hc0 x0 x1 x2 x3 x4 x5).2.2.2.1) = (tgtPart x4 x5) := by
  rw [runFirst_tgt, View.read_writes_full]
  simp only [putAll_eq, allOf_eq, harg2.read_unread, harg3.read_unread, harg4.read_unread, harg5.read_unread, harg6.read_unread, harg7.read_unread]
  rfl

/-- A batch's first point: the scratch ends at the batch's own pair, the outputs at the rows computed from it. -/
theorem first (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blankBlk x0 x2 x4 (decPart x1 x3)) ∗ owns (c : Thread nD τ) arg9 fullShare (emitBlk x0 x2 x4 (decPart x1 x3) (tgtPart x4 x5))
            ∗ owns (c : Thread nD τ) arg10 fullShare (decPart x1 x3) ∗ owns (c : Thread nD τ) arg11 fullShare (tgtPart x4 x5)) -∗ K ⟨⟩))
      ⊢ wp frame (wpE (defs₀ (F := F)) Variants.none c none) E (cc0__joint_kernel i arg2 harg2 arg3 harg3 arg4 harg4 arg5 harg5 arg6 harg6 arg7 harg7 arg8 harg8 arg9 harg9 arg10 harg10 arg11 harg11) K := by
  iintro ⟨H0, H1, H2, H3, H4, H5, H6, H7, HS0, HS1, Hk⟩
  iapply ((runFirst c i arg2 harg2 arg3 harg3 arg4 harg4 arg5 harg5 arg6 harg6 arg7 harg7 arg8 harg8 arg9 harg9 arg10 harg10 arg11 harg11 hc0 x0 x1 x2 x3 x4 x5).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%e6, H6⟩, ⟨%e7, H7⟩, ⟨%es0, HS0⟩, ⟨%es1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact first_blank ..
  isplitl [H7]
  · unfold owns; iexists _; isplitr
    swap; · iexact H7
    ipureintro; exact first_emit ..
  isplitl [HS0]
  · unfold owns; iexists _; isplitr
    swap; · iexact HS0
    ipureintro; exact first_dec ..
  unfold owns; iexists _; isplitr
  swap; · iexact HS1
  ipureintro; exact first_tgt ..
theorem later_blank (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) (f) :
    arg8.view.read (Elt F) (arg8.view.writes (Elt F) f (runLater c i arg2 harg2 arg3 harg3 arg4 harg4 arg5 harg5 arg6 harg6 arg7 harg7 arg8 harg8 arg9 harg9 arg10 harg10 arg11 harg11 hc0 x0 x1 x2 x3 x4 x5 y0 y1).1) = blankBlk x0 x2 x4 y0 := by
  rw [runLater_blank]
  unfold blankPcs
  rw [rows_read]
  simp only [putAll_eq, allOf_eq, harg2.read_unread, harg4.read_unread, harg6.read_unread, harg10.read_unread, harg11.read_unread]
  rfl
theorem later_emit (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) (f) :
    arg9.view.read (Elt F) (arg9.view.writes (Elt F) f (runLater c i arg2 harg2 arg3 harg3 arg4 harg4 arg5 harg5 arg6 harg6 arg7 harg7 arg8 harg8 arg9 harg9 arg10 harg10 arg11 harg11 hc0 x0 x1 x2 x3 x4 x5 y0 y1).2.1) = emitBlk x0 x2 x4 y0 y1 := by
  rw [runLater_emit]
  unfold emitPcs
  rw [rows_read]
  simp only [putAll_eq, allOf_eq, harg2.read_unread, harg4.read_unread, harg6.read_unread, harg10.read_unread, harg11.read_unread]
  rfl

/-- A later point: the outputs end at the rows computed from the scratch pair, which stays. -/
theorem later (c : Dev nD) (i : grid0.Coords) (arg2 : Memref sig .tc .vmem S1x40x144 .f32) (harg2 : arg2.IsWhole) (arg3 : Memref sig .tc .vmem S1x128x321 .f32) (harg3 : arg3.IsWhole) (arg4 : Memref sig .tc .vmem S144x320 .f32) (harg4 : arg4.IsWhole) (arg5 : Memref sig .tc .vmem S321x320 .f32) (harg5 : arg5.IsWhole) (arg6 : Memref sig .tc .vmem S321x1024 .bf16) (harg6 : arg6.IsWhole) (arg7 : Memref sig .tc .vmem S1x1x128 .i32) (harg7 : arg7.IsWhole) (arg8 : Memref sig .tc .vmem S1x40x128 .f32) (harg8 : arg8.IsWhole) (arg9 : Memref sig .tc .vmem S1x40x128 .f32) (harg9 : arg9.IsWhole) (arg10 : Memref sig .tc .vmem S320x128 .f32) (harg10 : arg10.IsWhole) (arg11 : Memref sig .tc .vmem S321x128 .f32) (harg11 : arg11.IsWhole) (hc0 : ¬cond0 i)
    (x0 : Vec F S1x40x144 .f32) (x1 : Vec F S1x128x321 .f32) (x2 : Vec F S144x320 .f32) (x3 : Vec F S321x320 .f32) (x4 : Vec F S321x1024 .bf16) (x5 : Vec F S1x1x128 .i32) (y0 : Vec F S320x128 .f32) (y1 : Vec F S321x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare y0 ∗ owns (c : Thread nD τ) arg11 fullShare y1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blankBlk x0 x2 x4 y0) ∗ owns (c : Thread nD τ) arg9 fullShare (emitBlk x0 x2 x4 y0 y1)
            ∗ owns (c : Thread nD τ) arg10 fullShare y0 ∗ owns (c : Thread nD τ) arg11 fullShare y1) -∗ K ⟨⟩))
      ⊢ wp frame (wpE (defs₀ (F := F)) Variants.none c none) E (cc0__joint_kernel i arg2 harg2 arg3 harg3 arg4 harg4 arg5 harg5 arg6 harg6 arg7 harg7 arg8 harg8 arg9 harg9 arg10 harg10 arg11 harg11) K := by
  iintro ⟨H0, H1, H2, H3, H4, H5, H6, H7, HS0, HS1, Hk⟩
  iapply ((runLater c i arg2 harg2 arg3 harg3 arg4 harg4 arg5 harg5 arg6 harg6 arg7 harg7 arg8 harg8 arg9 harg9 arg10 harg10 arg11 harg11 hc0 x0 x1 x2 x3 x4 x5 y0 y1).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%e6, H6⟩, ⟨%e7, H7⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact later_blank ..
  isplitl [H7]
  · unfold owns; iexists _; isplitr
    swap; · iexact H7
    ipureintro; exact later_emit ..
  isplitl [HS0]; · iexact HS0
  iexact HS1

end Cert.KernelIdeal.Joint
end
-- ==== Proof.JointRegion.lean ====
/-
The first region: what the eight windows and the two carried scratch buffers hold at each of the twenty points, and
what the two output arrays hold when the region ends.
-/
module

public import proofs.«01_k».proof.Proof.JointBody
public import Idealize.ShloMosaic.Lib.Pipeline.Value

@[expose] public section
set_option maxRecDepth 16384
noncomputable section
namespace Cert.KernelIdeal.Joint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

variable (V : Dev nD → Valuation τ sig (Elt F))

/-- The block of window `w`'s array at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- What the first scratch buffer holds from point `t` on, until the batch ends. -/
def dec (c : Dev nD) (t : Fin cfg0.N) : FVec F S320x128 .f32 := decPart (blk V c 1 t) (blk V c 3 t)
/-- The same of the second. -/
def tgt (c : Dev nD) (t : Fin cfg0.N) : FVec F S321x128 .f32 := tgtPart (blk V c 4 t) (blk V c 5 t)

theorem cond0_iff : ∀ t : Fin cfg0.N, cond0 (grid0.coords t) ↔ t.val % 5 = 0 :=
  (fun t => by
    have ht : t.val < 20 := Nat.lt_of_lt_of_eq t.isLt N_0
    have e1 : (grid0.coords t 1).val = t.val / 1 % 5 := Pipeline.Grid.coords_val t 1 (by decide) rfl
    simp only [cond0, e1]
    word_cmp
   : ∀ t : Fin grid0.N, cond0 (grid0.coords t) ↔ t.val % 5 = 0)

/-- The buffers of the region's rest that the body does not touch. -/
def rest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem entry_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ rest c) ∗ (∃ r, prngReg c r)) := by
  unfold Pipeline.ΦA rest; rw [scopedRest0_eq]; simp only [owns_whole]; try rfl

/-- The invariant before point `n`: after the first point the two scratch buffers hold the batch's pair. -/
def Inv (c : Dev nD) : (n : ℕ) → n ≤ cfg0.N → sProp 𝕄
  | 0, _ => Pipeline.ΦA spec0 c
  | n + 1, hn => iprop(iprop(owns (c : Thread nD τ) (Memref.whole cc0_scratch0) fullShare (dec V c ⟨n, hn⟩) ∗ owns (c : Thread nD τ) (Memref.whole cc0_scratch1) fullShare (tgt V c ⟨n, hn⟩) ∗ rest c) ∗ (∃ r, prngReg c r))

theorem Inv_zero (c : Dev nD) (n : ℕ) (h : n ≤ cfg0.N) (hz : n = 0) : Inv V c n h = Pipeline.ΦA spec0 c := by
  subst hz; rfl
theorem Inv_pos (c : Dev nD) (n : ℕ) (h : n ≤ cfg0.N) (hz : n ≠ 0) :
    Inv V c n h = iprop(iprop(owns (c : Thread nD τ) (Memref.whole cc0_scratch0) fullShare (dec V c ⟨n - 1, by omega⟩) ∗ owns (c : Thread nD τ) (Memref.whole cc0_scratch1) fullShare (tgt V c ⟨n - 1, by omega⟩) ∗ rest c) ∗ (∃ r, prngReg c r)) := by
  cases n with
  | zero => exact absurd rfl hz
  | succ n => rfl

/-- The region's data. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blankBlk (blk V c 0 t) (blk V c 2 t) (blk V c 4 t) (dec V c t)
    | ⟨7, _⟩ => emitBlk (blk V c 0 t) (blk V c 2 t) (blk V c 4 t) (dec V c t) (tgt V c t)
  Φ t := Inv V c t.val (Nat.le_of_lt_succ t.isLt)
  q _ := fullShare
  owed _ := 0

theorem A_eq (c : Dev nD) (w : Fin cfg0.W) : (dat V c).A w = V c (Proc.devRef .tc (Pipeline.arrRef spec0 w)) := by
  dsimp only [dat]
/-- A point inside a batch sees the batch's own blocks, the ones of the point before. -/
theorem prev_1 (c : Dev nD) (t : Fin cfg0.N) (h : ¬t.val % 5 = 0) :
    (blk V c 1 ⟨t.val - 1, Nat.lt_of_le_of_lt (Nat.sub_le _ _) t.isLt⟩ : Vec F S1x128x321 .f32) = blk V c 1 t := by
  have e := ((cfg0.win 1).index_eq_of_fetch rfl t (Bool.eq_false_iff.mpr fun hf => h (by have := (fetch0_1 t).mp hf; omega))).2
  have e2 := (dat V c).fetched_congr 1 e (by rfl) (blk V c 1 t)
  refine Eq.trans ?_ (e2.symm.trans ?_) <;> (unfold Dat.fetched Dat.blockOf blk; rw [A_eq]; try rfl)
theorem prev_3 (c : Dev nD) (t : Fin cfg0.N) (h : ¬t.val % 5 = 0) :
    (blk V c 3 ⟨t.val - 1, Nat.lt_of_le_of_lt (Nat.sub_le _ _) t.isLt⟩ : Vec F S321x320 .f32) = blk V c 3 t := by
  have e := ((cfg0.win 3).index_eq_of_fetch rfl t (Bool.eq_false_iff.mpr fun hf => h (by have := (fetch0_3 t).mp hf; omega))).2
  have e2 := (dat V c).fetched_congr 3 e (by rfl) (blk V c 3 t)
  refine Eq.trans ?_ (e2.symm.trans ?_) <;> (unfold Dat.fetched Dat.blockOf blk; rw [A_eq]; try rfl)
theorem prev_4 (c : Dev nD) (t : Fin cfg0.N) (h : ¬t.val % 5 = 0) :
    (blk V c 4 ⟨t.val - 1, Nat.lt_of_le_of_lt (Nat.sub_le _ _) t.isLt⟩ : Vec F S321x1024 .bf16) = blk V c 4 t := by
  have e := ((cfg0.win 4).index_eq_of_fetch rfl t (Bool.eq_false_iff.mpr fun hf => h (by have := (fetch0_4 t).mp hf; omega))).2
  have e2 := (dat V c).fetched_congr 4 e (by rfl) (blk V c 4 t)
  refine Eq.trans ?_ (e2.symm.trans ?_) <;> (unfold Dat.fetched Dat.blockOf blk; rw [A_eq]; try rfl)
theorem prev_5 (c : Dev nD) (t : Fin cfg0.N) (h : ¬t.val % 5 = 0) :
    (blk V c 5 ⟨t.val - 1, Nat.lt_of_le_of_lt (Nat.sub_le _ _) t.isLt⟩ : Vec F S1x1x128 .i32) = blk V c 5 t := by
  have e := ((cfg0.win 5).index_eq_of_fetch rfl t (Bool.eq_false_iff.mpr fun hf => h (by have := (fetch0_5 t).mp hf; omega))).2
  have e2 := (dat V c).fetched_congr 5 e (by rfl) (blk V c 5 t)
  refine Eq.trans ?_ (e2.symm.trans ?_) <;> (unfold Dat.fetched Dat.blockOf blk; rw [A_eq]; try rfl)
/-- So the scratch of a point inside a batch is the point before's. -/
theorem dec_prev (c : Dev nD) (t : Fin cfg0.N) (h : ¬t.val % 5 = 0) : dec V c ⟨t.val - 1, Nat.lt_of_le_of_lt (Nat.sub_le _ _) t.isLt⟩ = dec V c t := by
  unfold dec
  exact congrArg₂ decPart (prev_1 V c t h) (prev_3 V c t h)
theorem tgt_prev (c : Dev nD) (t : Fin cfg0.N) (h : ¬t.val % 5 = 0) : tgt V c ⟨t.val - 1, Nat.lt_of_le_of_lt (Nat.sub_le _ _) t.isLt⟩ = tgt V c t := by
  unfold tgt
  exact congrArg₂ tgtPart (prev_4 V c t h) (prev_5 V c t h)

theorem Inv_castSucc (c : Dev nD) (t : Fin cfg0.N) : (dat V c).Φ t.castSucc = Inv V c t.val (Nat.le_of_lt t.isLt) := by
  dsimp only [dat]; exact Pipeline.Dat.Φ_castSucc (Inv V c) t
theorem after_0 (c : Dev nD) (t : Fin cfg0.N) : (dat V c).after 0 t = blk V c 0 t := by dsimp only [dat]
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem after_1 (c : Dev nD) (t : Fin cfg0.N) : (dat V c).after 1 t = blk V c 1 t := by dsimp only [dat]
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem after_2 (c : Dev nD) (t : Fin cfg0.N) : (dat V c).after 2 t = blk V c 2 t := by dsimp only [dat]
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem after_3 (c : Dev nD) (t : Fin cfg0.N) : (dat V c).after 3 t = blk V c 3 t := by dsimp only [dat]
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem after_4 (c : Dev nD) (t : Fin cfg0.N) : (dat V c).after 4 t = blk V c 4 t := by dsimp only [dat]
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem after_5 (c : Dev nD) (t : Fin cfg0.N) : (dat V c).after 5 t = blk V c 5 t := by dsimp only [dat]
theorem before_5 (c : Dev nD) (t : Fin cfg0.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem after_6 (c : Dev nD) (t : Fin cfg0.N) : (dat V c).after 6 t = blankBlk (blk V c 0 t) (blk V c 2 t) (blk V c 4 t) (dec V c t) := by dsimp only [dat]
theorem after_7 (c : Dev nD) (t : Fin cfg0.N) : (dat V c).after 7 t = emitBlk (blk V c 0 t) (blk V c 2 t) (blk V c 4 t) (dec V c t) (tgt V c t) := by dsimp only [dat]

/-- What the body is called with at point `t`. -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))
/-- What it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 6400000 in
theorem sound (c : Dev nD) (t : Fin cfg0.N) :
    pre V c t ⊢ wp frame (wpE (defs₀ (F := F)) Variants.none c none) Set.univ (bodyAt0 t) (fun _ => post V c t) := by
  unfold pre post bodyAt0
  simp only [before_0, before_1, before_2, before_3, before_4, before_5]
  rw [show (dat V c).owesAt () t.succ = (dat V c).owesAt () t.castSucc from rfl,
    after_0, after_1, after_2, after_3, after_4, after_5, after_6, after_7]
  rw [show (dat V c).Φ t.succ = Inv V c (t.val + 1) t.isLt from rfl, Inv_pos V c _ _ (Nat.succ_ne_zero _)]
  simp only [Nat.add_sub_cancel, Fin.eta]
  rw [Inv_castSucc V c t]
  by_cases h0 : t.val % 5 = 0
  · have hS : Inv V c t.val (Nat.le_of_lt t.isLt) ⊢ (iprop(iprop((∃ d, owns (c : Thread nD τ) (Memref.whole cc0_scratch0) fullShare d) ∗ (∃ d, owns (c : Thread nD τ) (Memref.whole cc0_scratch1) fullShare d) ∗ rest c) ∗ (∃ r, prngReg c r)) : sProp 𝕄) := by
      by_cases hz : t.val = 0
      · rw [Inv_zero V c _ _ hz, entry_eq]
      · rw [Inv_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    refine (sep_mono hS .rfl).trans ?_
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ _ _ ((cond0_iff t).mpr h0) (blk V c 0 t) (blk V c 1 t) (blk V c 2 t) (blk V c 3 t) (blk V c 4 t) (blk V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Inv_pos V c _ _ (fun hz => h0 (by rw [hz])), dec_prev V c t h0, tgt_prev V c t h0]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ _ _ (fun h => h0 ((cond0_iff t).mp h)) (blk V c 0 t) (blk V c 1 t) (blk V c 2 t) (blk V c 3 t) (blk V c 4 t) (blk V c 5 t) (dec V c t) (tgt V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row_eq (t : Fin cfg0.N) : defs₀ (F := F) .tc cfg0.body (cfg0.bodyArgs t (cfg0.slots t)) = bodyAt0 t := by
  unfold defs₀; rw [Defs.onTc_tc]; try rfl

theorem body (c : Dev nD) : BodyObligation (dat V c) (defs₀ (F := F)) Variants.none () Set.univ := fun t => by
  rw [bigSep_W0, bigSep_W0, row_eq]
  exact triple_restated (sound V c t) rfl .rfl fun _ => .rfl

theorem hin (c : Dev nD) : Pipeline.ΦA spec0 c ⊢ (dat V c).Φ 0 := by
  rw [show (dat V c).Φ 0 = Inv V c 0 (Nat.zero_le _) from rfl, Inv_zero V c 0 _ rfl]

theorem hout (c : Dev nD) : (dat V c).Φ (Fin.last cfg0.N) ⊢ Pipeline.ΦA spec0 c := by
  rw [show (dat V c).Φ (Fin.last cfg0.N) = Inv V c cfg0.N (Nat.le_refl _) from rfl, Inv_pos V c _ _ (by have : cfg0.N = 20 := N_0; omega), entry_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem index_inj6 : ∀ t t' : Fin cfg0.N, win0_6.index t = win0_6.index t' → t = t' :=
  (by decide +kernel : ∀ t t' : Fin grid0.N, win0_6.index t = win0_6.index t' → t = t')
/-- Block `t` of the array the region leaves is what point `t` stored. -/
theorem left6 (c : Dev nD) (t : Fin cfg0.N) :
    ((cfg0.win 6).blk t).view.read (Elt F) ((dat V c).arrAt 6 cfg0.N) = blankBlk (blk V c 0 t) (blk V c 2 t) (blk V c 4 t) (dec V c t) :=
  ((dat V c).read_blk_arrAt_eq_flushed 6 (fun t t' _ _ hne => (cfg0.win 6).disjoint_blk fun h => hne (index_inj6 t t' h)) cfg0.N t t.isLt (flush0_6 t)).trans
    (by show (cfg0.win 6).cut (grid0.coords t) ((dat V c).after 6 t) = _
        rw [after_6]; try rfl)
theorem index_inj7 : ∀ t t' : Fin cfg0.N, win0_7.index t = win0_7.index t' → t = t' :=
  (by decide +kernel : ∀ t t' : Fin grid0.N, win0_7.index t = win0_7.index t' → t = t')
/-- Block `t` of the array the region leaves is what point `t` stored. -/
theorem left7 (c : Dev nD) (t : Fin cfg0.N) :
    ((cfg0.win 7).blk t).view.read (Elt F) ((dat V c).arrAt 7 cfg0.N) = emitBlk (blk V c 0 t) (blk V c 2 t) (blk V c 4 t) (dec V c t) (tgt V c t) :=
  ((dat V c).read_blk_arrAt_eq_flushed 7 (fun t t' _ _ hne => (cfg0.win 7).disjoint_blk fun h => hne (index_inj7 t t' h)) cfg0.N t t.isLt (flush0_7 t)).trans
    (by show (cfg0.win 7).cut (grid0.coords t) ((dat V c).after 7 t) = _
        rw [after_7]; try rfl)

end Cert.KernelIdeal.Joint
-- ==== Proof.LossBody.lean ====
/-
The loss kernel's body at its one point: the two skewed scratch tables, the 150 trips over them, and what is stored.
-/
module

public import proofs.«01_k».proof.Proof.Gen.KernelIdeal.Launch
public import proofs.«01_k».proof.Proof.JointBody
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import proofs.«01_k».proof.Proof.Gen.KernelIdeal.Loops
public import Idealize.ShloMosaic.Lib.Tactic
public import Idealize.ShloMosaic.Lib.WordCmp
public import Idealize.ShloMosaic.Lib.VecWindow

@[expose] public section
set_option maxRecDepth 16384
noncomputable section
namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The skew -/

/-- The mask's value. -/
abbrev mask : F .f32 := Named.named κ "mask" 0xF149F2CA#32

/-- The lanes whose number has the bit `k`. -/
def bitSet (k : BitVec 32) : IVec S328x128 1 :=
  broadcastTo S328x128 (shapeCast S1x128 (cmpi .ne (andi (iota .tc S1x128 32 [1] iota_S1x128_d1_w32) (broadcast S1x128 k)) (broadcast S1x128 0#32))
    shapeCasts_S1x128_S1x128) broadcasts_S1x128_S328x128

/-- One step of the skew: those lanes move down by `k`. -/
def shift (k : BitVec 32) (x : FVec F S328x128 .f32) : FVec F S328x128 .f32 :=
  select (bitSet k) (dynamicRotate 0 k none x rotates_S328x128_d0) x

/-- A batch's table over the mask. -/
def padded (v : Vec F S1x200x128 .f32) : FVec F S328x128 .f32 :=
  concatenate S328x128 0 [⟨S200x128, shapeCast S200x128 v shapeCasts_S1x200x128_S200x128⟩, ⟨S128x128, broadcast S128x128 mask⟩]
    concatenates_S200x128_S128x128_S328x128_d0

/-- Lane `u` moved down by `u`. -/
def skew (v : Vec F S1x200x128 .f32) : FVec F S328x128 .f32 :=
  shift 64#32 (shift 32#32 (shift 16#32 (shift 8#32 (shift 4#32 (shift 2#32 (shift 1#32 (padded v)))))))

theorem batch_inb (b : Fin 4) : ∀ a, (![b.val, 0, 0] : Fin 3 → Nat) a + S1x200x128.size a ≤ S4x200x128.size a :=
  fun | 0 => by show b.val + 1 ≤ 4; omega | 1 => by show 0 + 200 ≤ 200; omega | 2 => by show 0 + 128 ≤ 128; omega
theorem slab_inb (b : Fin 4) : ∀ a, (![0, 128 * b.val] : Fin 2 → Nat) a + S328x128.size a ≤ S328x512.size a :=
  fun | 0 => by show 0 + 328 ≤ 328; omega | 1 => by show 128 * b.val + 128 ≤ 512; omega

/-- The stores of one skewed table, the last first. -/
def slabs (v : Fin 4 → Vec F S1x200x128 .f32) : List (View.Piece (Elt F) S328x512 .f32) :=
  ([3, 2, 1, 0] : List (Fin 4)).map fun b =>
    ⟨Rect.unit (s := S328x512) ![0, 128 * b.val] S328x128.size (slab_inb b), shapeCast S328x128 (skew (v b)) shapeCasts_S328x128_S328x128⟩

/-- The load of batch `b`. -/
def batchOf {κ : Kind} {sp : Space} (v : View sig κ sp S4x200x128 .f32) (f : v.ty.Contents (Elt F)) (b : Fin 4) : Vec F S1x200x128 .f32 :=
  v.readAt (Elt F) (Rect.unit (s := S4x200x128) ![b.val, 0, 0] S1x200x128.size (batch_inb b)).toLoadRect f

/-! ## A trip -/

/-- One trip: two diagonals `d0`, `d0 + 1` of the tables (`p` blanks, `q` emissions). -/
def trip (p0 p1 q0 q1 : Vec F S1x512 .f32) (ds : Vec F S1x512 .i32) (d0 : BitVec 32) (s : FVec F S1x512 .f32 × FVec F S1x512 .f32) :
    FVec F S1x512 .f32 × FVec F S1x512 .f32 :=
  have a : FVec F S1x512 .f32 := k1_pay7 k1_pay70 s.1 (k1_pay3 p0 p1) (k1_pay4 k1_pay69 p0 p1 q0 q1) (k1_pay5 k1_pay69 q0 q1) (k1_pay6 k1_pay69 s.1)
  (a, k1_pay74 ds d0 a (k1_pay8 (k1_pay71 (F := F) ds) s.2 d0 p0)
    (k1_pay9 (k1_pay71 (F := F) ds) s.1 d0 p0 p1 (k1_pay1 k1_pay69 q0) (k1_pay6 k1_pay69 s.1)))

/-- The load of a row at `off`. -/
def rowAt {κ : Kind} {sp : Space} (v : View sig κ sp S328x512 .f32) (off : Fin 2 → ℕ) (inb : ∀ a, off a + S1x512.size a ≤ S328x512.size a)
    (f : v.ty.Contents (Elt F)) : Vec F S1x512 .f32 :=
  v.readAt (Elt F) (Rect.unit (s := S328x512) off S1x512.size inb).toLoadRect f

/-- Row `d` of a table. -/
def row (x : Vec F S328x512 .f32) (d : ℕ) : Vec F S1x512 .f32 := fun y => x fun | 0 => ⟨d % 328, Nat.mod_lt _ (by decide)⟩ | 1 => y 1

theorem rowAt_eq {κ : Kind} {sp : Space} (v : View sig κ sp S328x512 .f32) (off : Fin 2 → ℕ) (inb : ∀ a, off a + S1x512.size a ≤ S328x512.size a)
    (f : v.ty.Contents (Elt F)) (d : ℕ) (h0 : off 0 = d) (h1 : off 1 = 0) (hd : d < 328) : rowAt v off inb f = row (v.read (Elt F) f) d := by
  funext y
  have hy : (y 0).val = 0 := by have : (y 0).val < 1 := (y 0).isLt; omega
  show v.read (Elt F) f _ = v.read (Elt F) f _
  congr 1
  funext a
  fin_cases a
  · exact Fin.ext (by show off 0 + 1 * (y 0).val = d % 328; rw [Nat.mod_eq_of_lt hd]; omega)
  · exact Fin.ext (by show off 1 + 1 * (y 1).val = (y 1).val; omega)

/-- The state before trip `k`. -/
def state (x6 x7 : Vec F S328x512 .f32) (ds : Vec F S1x512 .i32) : ℕ → FVec F S1x512 .f32 × FVec F S1x512 .f32
  | 0 => (k1_pay72, k1_pay73 ds)
  | k + 1 => trip (row x6 (2 * k)) (row x6 (2 * k + 1)) (row x7 (2 * k)) (row x7 (2 * k + 1)) ds (BitVec.ofNat 32 (2 * k)) (state x6 x7 ds k)

theorem trips_eq : k1_t1_loop.trips = 150 := by decide

set_option maxHeartbeats 1376000 in
/-- The body's run from scratch tables of any content. -/
def run (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32)
    (f6 : BufTy.Contents (Elt F) arg6.view.ty) (f7 : BufTy.Contents (Elt F) arg7.view.ty) :
    Σ' (X6 : BufTy.Contents (Elt F) arg6.view.ty), Σ' (X7 : BufTy.Contents (Elt F) arg7.view.ty), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (arg6.view.loc (c : Thread nD τ) ↦[arg6.view.set]{fullShare} f6) ∗ (arg7.view.loc (c : Thread nD τ) ↦[arg7.view.set]{fullShare} f7)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} X6) ∗ (arg7.view.loc (c : Thread nD τ) ↦[arg7.view.set]{fullShare} X7)) -∗ K ⟨⟩))
          ⊢ wp frame (wpE (defs₀ (F := F)) Variants.none c none) E (cc1__loss_kernel i arg1 harg1 arg2 harg2 arg3 harg3 arg4 harg4 arg5 harg5 arg6 harg6 arg7 harg7) K } := by
  refine ⟨?_, ?_, ?_, fun E K => ?run⟩
  case run =>
    simp only [cc1__loss_kernel_eq_skeleton]; unfold cc1__loss_kernel_skel
    simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%d4, %f4, -, H4⟩, HS0, HS1, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexact HS0
    iexact HS1

theorem run_bsk (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32)
    (f6 : BufTy.Contents (Elt F) arg6.view.ty) (f7 : BufTy.Contents (Elt F) arg7.view.ty) : (run c i arg1 harg1 arg2 harg2 arg3 harg3 arg4 harg4 arg5 harg5 arg6 harg6 arg7 harg7 x0 x1 x2 x3 f6 f7).1 = (arg6.view.writes (Elt F) arg6.view.junk (slabs (batchOf arg1.view (harg1.unread x0)))) := by
  sl_kernel_rfl
theorem run_esk (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32)
    (f6 : BufTy.Contents (Elt F) arg6.view.ty) (f7 : BufTy.Contents (Elt F) arg7.view.ty) : (run c i arg1 harg1 arg2 harg2 arg3 harg3 arg4 harg4 arg5 harg5 arg6 harg6 arg7 harg7 x0 x1 x2 x3 f6 f7).2.1 = (arg7.view.writes (Elt F) arg7.view.junk (slabs (batchOf arg2.view (harg2.unread x1)))) := by
  sl_kernel_rfl
theorem run_out (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32)
    (f6 : BufTy.Contents (Elt F) arg6.view.ty) (f7 : BufTy.Contents (Elt F) arg7.view.ty) : (run c i arg1 harg1 arg2 harg2 arg3 harg3 arg4 harg4 arg5 harg5 arg6 harg6 arg7 harg7 x0 x1 x2 x3 f6 f7).2.2.1 = [⟨Rect.unit (s := S1x1) ![0, 0] S1x1.size inb_S1x1_S1x1_0_0,
      k1_pay75 (Joint.allOf arg3.view ![0, 0] inb_S1x512_S1x512_0_0 (harg3.unread x2)) (st_k1_t1 (F := F) Variants.none c none i arg1 harg1 arg2 harg2 arg3 harg3 arg4 harg4 arg5 harg5 arg6 harg6 arg7 harg7 (Joint.allOf arg4.view ![0, 0] inb_S1x512_S1x512_0_0 (harg4.unread x3)) (arg6.view.writes (Elt F) arg6.view.junk (slabs (batchOf arg1.view (harg1.unread x0)))) (arg7.view.writes (Elt F) arg7.view.junk (slabs (batchOf arg2.view (harg2.unread x1)))) (k1_pay72, k1_pay73 (Joint.allOf arg4.view ![0, 0] inb_S1x512_S1x512_0_0 (harg4.unread x3))) k1_t1_loop.trips).2⟩] := by
  sl_kernel_rfl
theorem tripR_eq (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (v395 : Vec F S1x512 .i32) (X6 : BufTy.Contents (Elt F) arg6.view.ty) (X7 : BufTy.Contents (Elt F) arg7.view.ty) (k : Fin k1_t1_loop.trips) (s : FVec F S1x512 .f32 × FVec F S1x512 .f32) :
    tripR_k1_t1 (F := F) Variants.none c none i arg1 harg1 arg2 harg2 arg3 harg3 arg4 harg4 arg5 harg5 arg6 harg6 arg7 harg7 v395 X6 X7 k s = trip (rowAt arg6.view (k1_off1 k) (k1_off1_inb k) X6) (rowAt arg6.view (k1_off2 k) (k1_off2_inb k) X6)
      (rowAt arg7.view (k1_off1 k) (k1_off1_inb k) X7) (rowAt arg7.view (k1_off2 k) (k1_off2_inb k) X7) v395 (Scalar.muli 2#32 (Scf.iv 0#32 1#32 k)) s := by
  unfold tripR_k1_t1 trip_k1_t1
  rfl

/-! ## What the run leaves -/

/-- Batch `b` of a table. -/
def batch (x : Vec F S4x200x128 .f32) (b : Fin 4) : Vec F S1x200x128 .f32 := fun y => x fun | 0 => b | 1 => y 1 | 2 => y 2

theorem batchOf_eq {κ : Kind} {sp : Space} (v : View sig κ sp S4x200x128 .f32) (f : v.ty.Contents (Elt F)) : batchOf v f = batch (v.read (Elt F) f) := by
  funext b y
  have hy : (y 0).val = 0 := by have : (y 0).val < 1 := (y 0).isLt; omega
  show v.read (Elt F) f _ = v.read (Elt F) f _
  congr 1
  funext a
  fin_cases a
  · exact Fin.ext (by show b.val + 1 * (y 0).val = b.val; omega)
  · exact Fin.ext (by show 0 + 1 * (y 1).val = (y 1).val; omega)
  · exact Fin.ext (by show 0 + 1 * (y 2).val = (y 2).val; omega)

/-- The batch a lane of the wide table belongs to, and its place in a batch's table. -/
def slabNo (y : S328x512.Idx) : Fin 4 := ⟨(y 1).val / 128, by have : (y 1).val < 512 := (y 1).isLt; omega⟩
def slabIx (y : S328x512.Idx) : S328x128.Idx := fun | 0 => y 0 | 1 => ⟨(y 1).val % 128, Nat.mod_lt _ (by decide)⟩

/-- The four skewed tables side by side. -/
def wide (v : Fin 4 → Vec F S1x200x128 .f32) : Vec F S328x512 .f32 := fun y => skew (v (slabNo y)) (slabIx y)

theorem slabs_read {κ : Kind} {sp : Space} (v : View sig κ sp S328x512 .f32) (f : v.ty.Contents (Elt F)) (g : Fin 4 → Vec F S1x200x128 .f32) :
    v.read (Elt F) (v.writes (Elt F) f (slabs g)) = wide g := by
  funext y
  refine View.read_writes_apply_of_pieces v f (wide g) (slabs g) ?_ y ?_
  · intro p hp x
    obtain ⟨b, -, rfl⟩ := List.mem_map.1 hp
    have h1 : (x 1).val < 128 := (x 1).isLt
    have hb : slabNo ((Rect.unit (s := S328x512) ![0, 128 * b.val] S328x128.size (slab_inb b)).emb x) = b :=
      Fin.ext (by show (128 * b.val + 1 * (x 1).val) / 128 = b.val; omega)
    have hx : slabIx ((Rect.unit (s := S328x512) ![0, 128 * b.val] S328x128.size (slab_inb b)).emb x) = x := by
      funext a
      fin_cases a
      · exact Fin.ext (by show 0 + 1 * (x 0).val = (x 0).val; omega)
      · exact Fin.ext (by show (128 * b.val + 1 * (x 1).val) % 128 = (x 1).val; omega)
    show shapeCast S328x128 (skew (g b)) shapeCasts_S328x128_S328x128 x = skew (g (slabNo _)) (slabIx _)
    rw [hb, hx, shapeCast_self]
  · have h0 : (y 0).val < 328 := (y 0).isLt
    have h1 : (y 1).val < 512 := (y 1).isLt
    refine ⟨⟨Rect.unit (s := S328x512) ![0, 128 * (slabNo y).val] S328x128.size (slab_inb (slabNo y)),
      shapeCast S328x128 (skew (g (slabNo y))) shapeCasts_S328x128_S328x128⟩, List.mem_map.2 ⟨slabNo y, ?_, rfl⟩, ?_⟩
    · exact (by decide : ∀ b : Fin 4, b ∈ ([3, 2, 1, 0] : List (Fin 4))) (slabNo y)
    · refine (Rect.mem_set_unit (inb := slab_inb (slabNo y))).2 fun a => ?_
      fin_cases a
      · exact ⟨Nat.zero_le _, by show (y 0).val < 0 + 328; omega⟩
      · exact ⟨by show 128 * ((y 1).val / 128) ≤ (y 1).val; omega, by show (y 1).val < 128 * ((y 1).val / 128) + 128; omega⟩

theorem d0_eq (k : Fin k1_t1_loop.trips) : Scalar.muli 2#32 (Scf.iv 0#32 1#32 k) = BitVec.ofNat 32 (2 * k.val) := by
  have hk : k.val < 150 := trips_eq ▸ k.isLt
  apply BitVec.eq_of_toNat_eq
  simp [Scalar.muli, Scf.iv, IntOp.muli, BitVec.toNat_mul]
theorem off1_eq (k : Fin k1_t1_loop.trips) : k1_off1 k 0 = 2 * k.val := by
  have hk : k.val < 150 := trips_eq ▸ k.isLt
  show (Scalar.muli 2#32 (Scf.iv 0#32 1#32 k)).toNat = _
  rw [d0_eq, BitVec.toNat_ofNat, Nat.mod_eq_of_lt (by omega)]
theorem off2_eq (k : Fin k1_t1_loop.trips) : k1_off2 k 0 = 2 * k.val + 1 := by
  have hk : k.val < 150 := trips_eq ▸ k.isLt
  show (Scalar.muli 2#32 (Scf.iv 0#32 1#32 k) + 1#32).toNat = _
  rw [d0_eq, BitVec.toNat_add, BitVec.toNat_ofNat]
  show (2 * k.val % 2 ^ 32 + 1) % 2 ^ 32 = _
  omega

theorem st_eq (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (v395 : Vec F S1x512 .i32) (X6 : BufTy.Contents (Elt F) arg6.view.ty) (X7 : BufTy.Contents (Elt F) arg7.view.ty) (k : ℕ) (hk : k ≤ k1_t1_loop.trips) :
    st_k1_t1 (F := F) Variants.none c none i arg1 harg1 arg2 harg2 arg3 harg3 arg4 harg4 arg5 harg5 arg6 harg6 arg7 harg7 v395 X6 X7 (k1_pay72, k1_pay73 v395) k = state (arg6.view.read (Elt F) X6) (arg7.view.read (Elt F) X7) v395 k := by
  induction k with
  | zero => rfl
  | succ k ih =>
    have h150 : k < 150 := by have := trips_eq; omega
    rw [st_k1_t1_succ (F := F) Variants.none c none i arg1 harg1 arg2 harg2 arg3 harg3 arg4 harg4 arg5 harg5 arg6 harg6 arg7 harg7 v395 X6 X7 _ ⟨k, hk⟩, tripR_eq, ih (by omega), d0_eq,
      rowAt_eq _ _ _ _ (2 * k) (off1_eq ⟨k, hk⟩) rfl (by omega), rowAt_eq _ _ _ _ (2 * k + 1) (off2_eq ⟨k, hk⟩) rfl (by omega),
      rowAt_eq _ _ _ _ (2 * k) (off1_eq ⟨k, hk⟩) rfl (by omega), rowAt_eq _ _ _ _ (2 * k + 1) (off2_eq ⟨k, hk⟩) rfl (by omega)]
    rfl

/-- What the kernel stores, from the two tables, the lane mask and the stopping diagonals. -/
def lossOut (x0 x1 : Vec F S4x200x128 .f32) (x2 : Vec F S1x512 .f32) (x3 : Vec F S1x512 .i32) : Vec F S1x1 .f32 :=
  k1_pay75 x2 (state (wide (batch x0)) (wide (batch x1)) x3 150).2

theorem out_read (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32)
    (f6 : BufTy.Contents (Elt F) arg6.view.ty) (f7 : BufTy.Contents (Elt F) arg7.view.ty) (g : BufTy.Contents (Elt F) arg5.view.ty) :
    arg5.view.read (Elt F) (arg5.view.writes (Elt F) g (run c i arg1 harg1 arg2 harg2 arg3 harg3 arg4 harg4 arg5 harg5 arg6 harg6 arg7 harg7 x0 x1 x2 x3 f6 f7).2.2.1) = lossOut x0 x1 x2 x3 := by
  rw [run_out, View.read_writes_full, Joint.allOf_eq, Joint.allOf_eq, harg3.read_unread, harg4.read_unread, st_eq _ _ _ _ _ _ _ _ _ _ _ _ _ _ _ _ _ _ _ _ (Nat.le_refl _), slabs_read, slabs_read,
    batchOf_eq, batchOf_eq, harg1.read_unread, harg2.read_unread, trips_eq]
  rfl

set_option maxHeartbeats 1376000 in
/-- The body: its one store, the scratch tables at anything before and after. -/
theorem body (c : Dev nD) (i : grid1.Coords) (arg1 : Memref sig .tc .vmem S4x200x128 .f32) (harg1 : arg1.IsWhole) (arg2 : Memref sig .tc .vmem S4x200x128 .f32) (harg2 : arg2.IsWhole) (arg3 : Memref sig .tc .vmem S1x512 .f32) (harg3 : arg3.IsWhole) (arg4 : Memref sig .tc .vmem S1x512 .i32) (harg4 : arg4.IsWhole) (arg5 : Memref sig .tc .vmem S1x1 .f32) (harg5 : arg5.IsWhole) (arg6 : Memref sig .tc .vmem S328x512 .f32) (harg6 : arg6.IsWhole) (arg7 : Memref sig .tc .vmem S328x512 .f32) (harg7 : arg7.IsWhole) (x0 : Vec F S4x200x128 .f32) (x1 : Vec F S4x200x128 .f32) (x2 : Vec F S1x512 .f32) (x3 : Vec F S1x512 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lossOut x0 x1 x2 x3) ∗ (∃ d, owns (c : Thread nD τ) arg6 fullShare d) ∗ (∃ d, owns (c : Thread nD τ) arg7 fullShare d)) -∗ K ⟨⟩))
      ⊢ wp frame (wpE (defs₀ (F := F)) Variants.none c none) E (cc1__loss_kernel i arg1 harg1 arg2 harg2 arg3 harg3 arg4 harg4 arg5 harg5 arg6 harg6 arg7 harg7) K := by
  iintro ⟨H0, H1, H2, H3, H4, ⟨%d6, H6⟩, ⟨%d7, H7⟩, Hk⟩
  unfold owns
  icases H6 with ⟨%f6, -, H6⟩
  icases H7 with ⟨%f7, -, H7⟩
  iapply ((run c i arg1 harg1 arg2 harg2 arg3 harg3 arg4 harg4 arg5 harg5 arg6 harg6 arg7 harg7 x0 x1 x2 x3 f6 f7).2.2.2 E K)
  unfold owns
  isplitl [H0]; · iexact H0
  isplitl [H1]; · iexact H1
  isplitl [H2]; · iexact H2
  isplitl [H3]; · iexact H3
  isplitl [H4]; · iexact H4
  isplitl [H6]; · iexact H6
  isplitl [H7]; · iexact H7
  iintro ⟨H0, H1, H2, H3, ⟨%e4, H4⟩, H6, H7⟩
  iapply Hk
  isplitl [H0]; · iexact H0
  isplitl [H1]; · iexact H1
  isplitl [H2]; · iexact H2
  isplitl [H3]; · iexact H3
  isplitl [H4]
  · iexists _; isplitr
    swap; · iexact H4
    ipureintro; exact out_read c i arg1 harg1 arg2 harg2 arg3 harg3 arg4 harg4 arg5 harg5 arg6 harg6 arg7 harg7 x0 x1 x2 x3 f6 f7 e4
  isplitl [H6]
  · iexists _; iexists _; isplitr
    swap; · iexact H6
    ipureintro; rfl
  iexists _; iexists _; isplitr
  swap; · iexact H7
  ipureintro; rfl

end Cert.KernelIdeal.Loss
end
-- ==== Proof.LossRegion.lean ====
/-
The second region: one point, whose body finds the whole arrays and leaves the loss.
-/
module

public import proofs.«01_k».proof.Proof.LossBody

@[expose] public section
set_option maxRecDepth 16384
noncomputable section
namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
local notation "𝕄" => MT nD τ sig Unit (Elt F) ℕ (UR sig nD τ) ℕ

variable (V : Dev nD → Valuation τ sig (Elt F))

/-- The block of window `w`'s array at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem entry_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) (Memref.whole cc1_scratch0) fullShare d) ∗ (∃ d, owns (c : Thread nD τ) (Memref.whole cc1_scratch1) fullShare d)) ∗ (∃ r, prngReg c r)) := by
  unfold Pipeline.ΦA; rw [scopedRest1_eq]; simp only [owns_whole]; try rfl

/-- The region's data. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => lossOut (blk V c 0 t) (blk V c 1 t) (blk V c 2 t) (blk V c 3 t)
  Φ _ := Pipeline.ΦA spec1 c
  q _ := fullShare
  owed _ := 0

theorem A_eq (c : Dev nD) (w : Fin cfg1.W) : (dat V c).A w = V c (Proc.devRef .tc (Pipeline.arrRef spec1 w)) := by
  dsimp only [dat]
theorem after_0 (c : Dev nD) (t : Fin cfg1.N) : (dat V c).after 0 t = blk V c 0 t := by dsimp only [dat]
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem after_1 (c : Dev nD) (t : Fin cfg1.N) : (dat V c).after 1 t = blk V c 1 t := by dsimp only [dat]
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem after_2 (c : Dev nD) (t : Fin cfg1.N) : (dat V c).after 2 t = blk V c 2 t := by dsimp only [dat]
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem after_3 (c : Dev nD) (t : Fin cfg1.N) : (dat V c).after 3 t = blk V c 3 t := by dsimp only [dat]
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem after_4 (c : Dev nD) (t : Fin cfg1.N) : (dat V c).after 4 t = lossOut (blk V c 0 t) (blk V c 1 t) (blk V c 2 t) (blk V c 3 t) := by dsimp only [dat]

/-- What the body is called with at point `t`. -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))
/-- What it returns. -/
def post (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

set_option maxHeartbeats 6400000 in
theorem sound (c : Dev nD) (t : Fin cfg1.N) :
    pre V c t ⊢ wp frame (wpE (defs₀ (F := F)) Variants.none c none) Set.univ (bodyAt1 t) (fun _ => post V c t) := by
  unfold pre post bodyAt1
  simp only [before_0, before_1, before_2, before_3]
  rw [show (dat V c).owesAt () t.succ = (dat V c).owesAt () t.castSucc from rfl,
    after_0, after_1, after_2, after_3, after_4]
  rw [show (dat V c).Φ t.succ = Pipeline.ΦA spec1 c from rfl, show (dat V c).Φ t.castSucc = Pipeline.ΦA spec1 c from rfl, entry_eq]
  iintro ⟨⟨⟨R0, R1, R2, R3, R4, R5, R6, R7, R8, R9, R10, R11, R12, R13, R14, HS0, HS1⟩, Hg⟩, Ho, ⟨%d0, H0⟩, ⟨%d1, H1⟩, ⟨%d2, H2⟩, ⟨%d3, H3⟩, ⟨%d4, H4⟩⟩
  iapply (body c (grid1.coords t) _ _ _ _ _ _ _ _ _ _ _ _ _ _ (blk V c 0 t) (blk V c 1 t) (blk V c 2 t) (blk V c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [R0 R1 R2 R3 R4 R5 R6 R7 R8 R9 R10 R11 R12 R13 R14 HS0 HS1 Hg]
  · isplitl [R0 R1 R2 R3 R4 R5 R6 R7 R8 R9 R10 R11 R12 R13 R14 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

theorem row_eq (t : Fin cfg1.N) : defs₀ (F := F) .tc cfg1.body (cfg1.bodyArgs t (cfg1.slots t)) = bodyAt1 t := by
  unfold defs₀; rw [Defs.onTc_tc]; try rfl

theorem obligation (c : Dev nD) : BodyObligation (dat V c) (defs₀ (F := F)) Variants.none () Set.univ := fun t => by
  rw [bigSep_W1, bigSep_W1, row_eq]
  exact triple_restated (sound V c t) rfl .rfl fun _ => .rfl

theorem left (c : Dev nD) (t : Fin cfg1.N) :
    ((cfg1.win 4).blk t).view.read (Elt F) ((dat V c).arrAt 4 cfg1.N) = lossOut (blk V c 0 t) (blk V c 1 t) (blk V c 2 t) (blk V c 3 t) :=
  ((dat V c).read_blk_arrAt_eq_flushed 4 (fun t t' _ _ hne => absurd (Fin.ext (by have := t.isLt; have := t'.isLt; have : cfg1.N = 1 := N_1; omega)) hne) cfg1.N t t.isLt (flush1_4 t)).trans
    (by show (cfg1.win 4).cut (grid1.coords t) ((dat V c).after 4 t) = _
        rw [after_4]; try rfl)

end Cert.KernelIdeal.Loss
-- ==== Proof.Whole.lean ====
/-
The whole run: two regions between host stretches. Every run ends, and every buffer outside the regions ends at what the
host stretches and the regions' closed forms say.
-/
module

public import proofs.«01_k».proof.Proof.JointRegion
public import proofs.«01_k».proof.Proof.LossRegion
public import proofs.«01_k».proof.Proof.Twin
public import proofs.«01_k».proof.Proof.Gen.KernelIdeal.Regions
public import Idealize.ShloMosaic.Lib.Pipeline.RegionArraysS

@[expose] public section
set_option maxRecDepth 16384
noncomputable section
namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg afterRegion Seg)
open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- What the first region leaves. -/
def outsA : Outs (F := F) := fun _ r c => afterRegion (Joint.dat (V5 m) c) (V5 m c) (Proc.devRef .tc r)
/-- What the second region leaves, over the first's. -/
def outsB : Outs (F := F) := fun _ r c => afterRegion (Loss.dat (V11 m (outsA m)) c) (V11 m (outsA m) c) (Proc.devRef .tc r)
/-- What each region leaves. -/
def outs : Outs (F := F) := fun n => if n = 6 then outsA m n else outsB m n

theorem V6_eq (c : Dev nD) : V6 m (outs m) c = V6 m (outsA m) c := rfl
theorem V11_eq (c : Dev nD) : V11 m (outs m) c = V11 m (outsA m) c := rfl

/-- The two regions' data, over what each is entered with. -/
def pdats (V W : Dev nD → Valuation τ sig (Elt F)) : (p : Fin 2) → (c : Dev nD) → Dat τ (Elt F) Unit ℕ (UR sig nD τ) ℕ (cfgs p) c
  | ⟨0, _⟩ => Joint.dat V
  | ⟨1, _⟩ => Loss.dat W

open Classical in
/-- The one index at every TensorCore's cells. -/
def lset (g : GSem nD τ sig) : Finset Unit := if g.1.2 = .tc then {()} else ∅
def lev (_ : GSem nD τ sig) (_ : Unit) : ℕ := 0

theorem cut (p : Fin 2) : Pipeline.LevelCut (pcfgs (F := F)) adm () lset lev p (fun _ => 0) (fun _ => 0) where
  hι c w s := by unfold lset; rw [if_pos rfl]; exact Finset.mem_singleton_self _
  hιb c w s := Nat.le_refl _
  hD c g i h := absurd h (by simp)

/-- What a core carries beside its buffers, at every boundary. -/
def carried (_ : Fin 3) (c : Dev nD) : sProp 𝕄 :=
  iprop((∃ W, owes (c : Thread nD τ) (0 : CellTallies nD τ sig Unit) W) ∗ (∃ r, prngReg c r) ∗ emp)

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)

section Records
variable (V W : Dev nD → Valuation τ sig (Elt F))

def seg0 : RegionSeg (pcfgs (F := F)) adm (pdats V W) () defs₀ Variants.none lset lev 0 :=
  RegionSeg.ofHeldIn (pcfgs (F := F)) adm (pdats V W) () defs₀ Variants.none lset lev 0 (fun _ => 0) (Pipeline.ucRefs τ sig)
    (fun c => iprop(∃ r, prngReg c r)) (fun c => iprop(∃ r, prngReg c r)) launch0.toP rfl
    (fun c => (Joint.body V c).loose) (fun _ _ => rfl) (fun _ => rfl) (fun c => (Joint.dat V c).share_full fun _ => rfl)
    (fun c => Joint.hin V c) (fun c => Joint.hout V c) (fun _ => 0) (cut 0) (fun _ => iprop(emp)) V (fun c w => Joint.A_eq V c w)

def seg1 : RegionSeg (pcfgs (F := F)) adm (pdats V W) () defs₀ Variants.none lset lev 1 :=
  RegionSeg.ofHeldIn (pcfgs (F := F)) adm (pdats V W) () defs₀ Variants.none lset lev 1 (fun _ => 0) (Pipeline.ucRefs τ sig)
    (fun c => iprop(∃ r, prngReg c r)) (fun c => iprop(∃ r, prngReg c r)) launch1.toP rfl
    (fun c => (Loss.obligation W c).loose) (fun _ _ => rfl) (fun _ => rfl) (fun c => (Loss.dat W c).share_full fun _ => rfl)
    (fun c => .rfl) (fun c => .rfl) (fun _ => 0) (cut 1) (fun _ => iprop(emp)) W (fun c w => Loss.A_eq W c w)

theorem pre0 (c : Dev nD) : iprop(StableHlo.held (c : Thread nD τ) (Pipeline.ucRefs τ sig) (V c) ∗ carried 0 c) ⊢ (seg0 V W).pre c := by
  show _ ⊢ iprop(StableHlo.held (c.tc : Thread nD τ) (Pipeline.arrRefs spec0) (V c) ∗ (∃ r, prngReg c r)
    ∗ (StableHlo.held (c.tc : Thread nD τ) (Pipeline.ucRefs τ sig \ Pipeline.arrRefs spec0) (V c) ∗ emp) ∗ ∃ Wd, owes (c : Thread nD τ) (0 : CellTallies nD τ sig Unit) Wd)
  unfold carried
  rw [StableHlo.held_sub_split (c.tc : Thread nD τ) sub0 (V c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post0 (V' : Valuation τ sig (Elt F)) (c : Dev nD) (h : ∀ b ∈ Pipeline.ucRefs τ sig, afterRegion (Joint.dat V c) (V c) b = V' b) :
    (seg0 V W).post c ⊢ iprop(StableHlo.held (c : Thread nD τ) (Pipeline.ucRefs τ sig) V' ∗ carried 1 c) := by
  rw [← StableHlo.held_congr (c : Thread nD τ) h]
  exact RegionSeg.ofHeldIn_post (pcs := pcfgs (F := F)) (p := 0) (pdats := pdats V W) (W := V) sub0 c
theorem pre1 (c : Dev nD) : iprop(StableHlo.held (c : Thread nD τ) (Pipeline.ucRefs τ sig) (W c) ∗ carried 1 c) ⊢ (seg1 V W).pre c := by
  show _ ⊢ iprop(StableHlo.held (c.tc : Thread nD τ) (Pipeline.arrRefs spec1) (W c) ∗ (∃ r, prngReg c r)
    ∗ (StableHlo.held (c.tc : Thread nD τ) (Pipeline.ucRefs τ sig \ Pipeline.arrRefs spec1) (W c) ∗ emp) ∗ ∃ Wd, owes (c : Thread nD τ) (0 : CellTallies nD τ sig Unit) Wd)
  unfold carried
  rw [StableHlo.held_sub_split (c.tc : Thread nD τ) sub1 (W c)]
  iintro ⟨⟨Ha, Hu⟩, HO, HX, HR⟩
  isplitl [Ha]; · iexact Ha
  isplitl [HX]; · iexact HX
  isplitl [Hu HR]
  · isplitl [Hu]; · iexact Hu
    iexact HR
  iexact HO
theorem post1 (V' : Valuation τ sig (Elt F)) (c : Dev nD) (h : ∀ b ∈ Pipeline.ucRefs τ sig, afterRegion (Loss.dat W c) (W c) b = V' b) :
    (seg1 V W).post c ⊢ iprop(StableHlo.held (c : Thread nD τ) (Pipeline.ucRefs τ sig) V' ∗ carried 2 c) := by
  rw [← StableHlo.held_congr (c : Thread nD τ) h]
  exact RegionSeg.ofHeldIn_post (pcs := pcfgs (F := F)) (p := 1) (pdats := pdats V W) (W := W) sub1 c
end Records

/-- The first region changes its two result arrays alone. -/
theorem after0 (c : Dev nD) : ∀ b ∈ Pipeline.ucRefs τ sig, afterRegion (Joint.dat (V5 m) c) (V5 m c) b = V6 m (outs m) c b := by
  intro b hb
  rw [V6_eq]
  by_cases h1 : b = Proc.devRef .tc main_v11_1
  · subst h1; simp only [V6, Function.update_self]; rfl
  by_cases h0 : b = Proc.devRef .tc main_v11_0
  · subst h0; rw [V6, Function.update_of_ne h1, Function.update_self]; rfl
  rw [V6, Function.update_of_ne h1, Function.update_of_ne h0]
  obtain ⟨r, -, rfl⟩ := Finset.mem_map.mp (Finset.mem_filter.mp hb).1
  refine Pipeline.afterRegion_keeps (Joint.dat (V5 m) c) (V5 m c) launch0.win.arr_inj (fun w => Joint.A_eq (V5 m) c w) r ?_
  intro w hw
  have key : ∀ w : Fin 8, Pipeline.arrRef spec0 w ≠ main_v11_0 → Pipeline.arrRef spec0 w ≠ main_v11_1 → (spec0 w).isOut = false := by decide
  exact key w (fun e => h0 (congrArg (Proc.devRef (τ := τ) .tc) (hw.symm.trans e))) (fun e => h1 (congrArg (Proc.devRef (τ := τ) .tc) (hw.symm.trans e)))

theorem after1 (c : Dev nD) : ∀ b ∈ Pipeline.ucRefs τ sig, afterRegion (Loss.dat (V11 m (outs m)) c) (V11 m (outs m) c) b = V12 m (outs m) c b := by
  intro b hb
  by_cases h0 : b = Proc.devRef .tc main_v42
  · subst h0; rw [V12, Function.update_self]; rfl
  rw [V12, Function.update_of_ne h0]
  obtain ⟨r, -, rfl⟩ := Finset.mem_map.mp (Finset.mem_filter.mp hb).1
  refine Pipeline.afterRegion_keeps (Loss.dat (V11 m (outs m)) c) (V11 m (outs m) c) launch1.win.arr_inj (fun w => Loss.A_eq (V11 m (outs m)) c w) r ?_
  intro w hw
  have key : ∀ w : Fin 5, Pipeline.arrRef spec1 w ≠ main_v42 → (spec1 w).isOut = false := by decide
  exact key w (fun e => h0 (congrArg (Proc.devRef (τ := τ) .tc) (hw.symm.trans e)))

/-- The launch gives each core its buffers as they are and what it carries. -/
theorem start (c : Dev nD) : (iprop(unscopedBufs c (fun b => m ((c.tc : Thread nD τ).loc b)) ∗ unscopedSems0 c
      ∗ owes (c.tc : Thread nD τ) ((0 : Dev nD → CellTallies nD τ sig Unit) c) ∅ ∗ Pipeline.launchCred (0 : Dev nD → CellTallies nD τ sig Unit) c ∗ prngReg c (ρ c) ∗ emp) : sProp 𝕄)
    ⊢ iprop(StableHlo.held (c : Thread nD τ) (Pipeline.ucRefs τ sig) (V0 m c) ∗ carried 0 c) := by
  unfold carried
  rw [← Pipeline.unscopedBufs_held (Ix := Unit) (Name := ℕ) (U := UR sig nD τ) (Lvl := ℕ) c (V0 m c)]
  refine sep_mono .rfl ?_
  iintro ⟨-, Ho, -, Hp, He⟩
  isplitl [Ho]; · iexists _; iexact Ho
  isplitl [Hp]; · iexists _; iexact Hp
  iexact He

set_option backward.isDefEq.respectTransparency.types false in
/-- The run, given a record of each region. -/
theorem run_of (o : Outs (F := F)) (pd : (p : Fin 2) → (c : Dev nD) → Dat τ (Elt F) Unit ℕ (UR sig nD τ) ℕ (cfgs p) c)
    (R0 : RegionSeg (pcfgs (F := F)) adm pd () defs₀ Variants.none lset lev 0)
    (hpre0 : ∀ c : Dev nD, iprop(StableHlo.held (c : Thread nD τ) (Pipeline.ucRefs τ sig) (V5 m c) ∗ carried 0 c) ⊢ R0.pre c)
    (hpost0 : ∀ c : Dev nD, R0.post c ⊢ iprop(StableHlo.held (c : Thread nD τ) (Pipeline.ucRefs τ sig) (V6 m o c) ∗ carried 1 c))
    (R1 : RegionSeg (pcfgs (F := F)) adm pd () defs₀ Variants.none lset lev 1)
    (hpre1 : ∀ c : Dev nD, iprop(StableHlo.held (c : Thread nD τ) (Pipeline.ucRefs τ sig) (V11 m o c) ∗ carried 1 c) ⊢ R1.pre c)
    (hpost1 : ∀ c : Dev nD, R1.post c ⊢ iprop(StableHlo.held (c : Thread nD τ) (Pipeline.ucRefs τ sig) (V12 m o c) ∗ carried 2 c)) :
    θ_run defs (onTc (τ := τ) (main (F := F))) ⟨m, fun _ => 0, ρ⟩ (fun r => (∀ c : Dev nD,
      ∀ b ∈ Pipeline.ucRefs τ sig, r.2.mem (c, b) = V13 m o c b) ∧ r.2.sem = fun _ => 0) := by
  refine Pipeline.θ_run_regions_kit_dev_sems (pcfgs (F := F)) adm pd () cellOf_inj emb₁ defs₀ Variants.none lset lev m ρ main
    (segs m o Variants.none lset lev carried () pd R0 R1)
    (fun c Q => by
      rewrite [main_chain c, Seg.run_eq_chain,
        show (segs m o Variants.none lset lev carried () pd R0 R1 c).map Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1, StableHlo.seq hostOps1_1, StableHlo.seq hostOps1_2, StableHlo.seq hostOps1_3, StableHlo.seq hostOps1_4,
          Prog.lift (.customCall (Pipeline.entry 1) ()),
          StableHlo.seq hostOps2] from rfl]
      dsimp (config := { failIfUnchanged := false }) only
      exact .rfl)
    (fun c => by simp only [segs, Seg.pipes_host, Seg.pipes_region, Seg.pipes_nil]; decide) 0
    (fun g hg => by unfold lset; rw [if_neg hg]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ carried 0 c))
    (Tₙ := fun c => StableHlo.held (c : Thread nD τ) (Pipeline.ucRefs τ sig) (V13 m o c))
    (hch := fun c => ⟨.rfl, .rfl, .rfl, .rfl, .rfl,
      hpre0 c, hpost0 c, .rfl, .rfl, .rfl, .rfl, hpre1 c, hpost1 c,
      sep_mono .rfl (by unfold carried; iintro ⟨H, -⟩; iexact H)⟩)
    (hinit := ?_) (QY := fun c s => ∀ b ∈ Pipeline.ucRefs τ sig, s.mem (c, b) = V13 m o c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop(bigSep Finset.univ fun c : Dev nD => iprop(StableHlo.held (c : Thread nD τ) (Pipeline.ucRefs τ sig) (V0 m c) ∗ carried 0 c)) : sProp 𝕄) := by
      refine bigSep_mono fun c _ => ?_
      exact start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V13 m o c) s') $$ [Hh HSI]
    · isplitl [Hh] <;> iassumption
    icases Hr with ⟨%h, HSI⟩
    imodintro
    isplitr
    · ipureintro
      exact h
    · iexact HSI

theorem run_all : θ_run defs (onTc (τ := τ) (main (F := F))) ⟨m, fun _ => 0, ρ⟩ (fun r => (∀ c : Dev nD,
      ∀ b ∈ Pipeline.ucRefs τ sig, r.2.mem (c, b) = V13 m (outs m) c b) ∧ r.2.sem = fun _ => 0) :=
  run_of m ρ (outs m) (pdats (V5 m) (V11 m (outs m))) (seg0 (V5 m) (V11 m (outs m))) (fun c => pre0 _ _ c) (fun c => post0 _ _ _ c (after0 m c))
    (seg1 (V5 m) (V11 m (outs m))) (fun c => pre1 _ _ c) (fun c => post1 _ _ _ c (after1 m c))

theorem mem_uc (r : Ref sig .tc) (h : ¬(Proc.devRef .tc r : DevRef τ sig).isScoped) : (Proc.devRef .tc r : DevRef τ sig) ∈ Pipeline.ucRefs τ sig :=
  Finset.mem_filter.mpr ⟨StableHlo.devRef_mem_tcRefs r, h⟩

/-- The arguments end as they were, the counters at zero, and the result at what the last stretch computes. -/
theorem run_main : θ_run defs (onTc (τ := τ) (main (F := F))) ⟨m, fun _ => 0, ρ⟩ (fun r => (∀ c : Dev nD,
      r.2.mem ((c.tc : Thread nD τ).loc main_v43) = V13 m (outs m) c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨h.1 c _ (mem_uc main_v43 (by decide)),
      (h.1 c _ (mem_uc main_arg0 (by decide))).trans (V13_main_arg0 m (outs m) c),
      (h.1 c _ (mem_uc main_arg1 (by decide))).trans (V13_main_arg1 m (outs m) c),
      (h.1 c _ (mem_uc main_arg2 (by decide))).trans (V13_main_arg2 m (outs m) c),
      (h.1 c _ (mem_uc main_arg3 (by decide))).trans (V13_main_arg3 m (outs m) c),
      (h.1 c _ (mem_uc main_arg4 (by decide))).trans (V13_main_arg4 m (outs m) c),
      (h.1 c _ (mem_uc main_arg5 (by decide))).trans (V13_main_arg5 m (outs m) c),
      (h.1 c _ (mem_uc main_arg6 (by decide))).trans (V13_main_arg6 m (outs m) c),
      (h.1 c _ (mem_uc main_arg7 (by decide))).trans (V13_main_arg7 m (outs m) c),
      (h.1 c _ (mem_uc main_arg8 (by decide))).trans (V13_main_arg8 m (outs m) c),
      (h.1 c _ (mem_uc main_arg9 (by decide))).trans (V13_main_arg9 m (outs m) c),
      (h.1 c _ (mem_uc main_arg10 (by decide))).trans (V13_main_arg10 m (outs m) c)⟩, h.2⟩) (run_all m ρ)

theorem framed : Framed F := fun m g _ =>
  (θ_run defs _ _).mono (fun _ h => ⟨fun c => (h.1 c).2, h.2⟩) (run_main m g)

end Cert.KernelIdeal.Whole
-- ==== Proof.RefRun.lean ====
module

public import proofs.«01_k».proof.Proof.Gen.ReferenceIdeal.Run
public import Idealize.ShloMosaic.Lib.Pipeline.RegionsLoop

@[expose] public section

set_option maxRecDepth 2000

noncomputable section

/-! The reference's whole run, its semaphores included: the stretches before its loop, the loop, the stretch after it,
    as the segments of one run that reads the semaphores back at the end as well as the buffers. -/

namespace Cert.ReferenceIdeal.Quiet

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal.Gen Cert.ReferenceIdeal.Value
open Idealize.ShloMosaic.Pipeline (CSeg Ticket ucRefs)

variable {F : FTy → Type} [FloatOps F]

local notation "𝕄" => MT nD τ sig Unit (Elt F) ℕ (Option PUnit) ℕ

/-- The program has no pipeline, so there is nothing to admit, -/
abbrev none_admitted : (p : Fin 0) → ((pcfgs (F := F)) p).Adm := fun p => p.elim0

/-- and no ticket to hand out. -/
abbrev none_ticket : Fin 0 → Ticket (Ix := Unit) (Name := ℕ) (U := Option PUnit) (Lvl := ℕ) (nD := nD) (τ := τ) (pcfgs (F := F)) none_admitted :=
  fun j => j.elim0

/-- What a core keeps beside its buffers: what it owes, which is nothing. -/
abbrev debt (c : Dev nD) : sProp 𝕄 := iprop(∃ W, owes (c : Thread nD τ) (0 : CellTallies nD τ sig Unit) W)

variable (m : (ℓ : Loc nD τ sig) → Buf (Elt F) ℓ)

/-- The loop's test, with the debt carried past it. -/
theorem test : LoopCond (Ix := Unit) (Name := ℕ) (U := Option PUnit) (Lvl := ℕ) (pcfgs (F := F)) defs₀ Variants.none loops debt (main_while0_cond (F := F)) condOps bodyI (entryContents preI m) 20099 := by
  intro k hk c bd
  refine BIBase.Entails.trans ?_ (((sep_mono_left (Q := debt c) (cond_spec m k hk c bd)).trans (wp_frame_r _ _ _)).trans (wp_mono _ _ _ fun v => ?_))
  · iintro ⟨Hb, Hh, Ho⟩
    isplitl [Hb Hh]
    · isplitl [Hb] <;> iassumption
    · iexact Ho
  · iintro ⟨⟨%hv, Hb, Hh⟩, Ho⟩
    isplitr
    · ipureintro; exact hv
    isplitl [Hb]
    · iexact Hb
    isplitl [Hh] <;> iassumption

/-- The run's segments. -/
def parts : List (CSeg (pcfgs (F := F)) none_admitted defs₀ Variants.none (fun _ => (∅ : Finset Unit)) (fun _ _ => (0 : ℕ)) loops none_ticket) :=
  segsOf _ _ _ _ _ _ _ _ debt preI hpre (launchContents m)
    ++ loopSeg _ _ _ _ _ _ _ _ 0 main_while0_cond main_while0_body rfl condOps bodyI hbodyI (by rw [while0_body_chain]; rfl) 20099 (entryContents preI m) debt (test m)
      :: segsOf _ _ _ _ _ _ _ _ debt postI hpost (fun c => after condOps (atTrip condOps bodyI (entryContents preI m) 20099 c))

theorem parts_prog : (parts m).map CSeg.prog
    = (preI.map fun ops => (seq ops : Prog _ PUnit)) ++ HostLoop.enter 0 :: postI.map fun ops => (seq ops : Prog _ PUnit) := by
  simp only [parts, List.map_append, List.map_cons, segsOf_prog]
  rfl

theorem main_parts (c : Dev nD) : main (F := F) c = Pipeline.chain ((parts m).map CSeg.prog) := by
  rw [parts_prog, main_chain]; rfl

theorem parts_chain : CSeg.Chains (fun c => iprop(held (c : Thread nD τ) (ucRefs τ sig) (launchContents m c) ∗ debt c)) (parts m)
    (fun c => iprop(held (c : Thread nD τ) (ucRefs τ sig) (finalContents condOps preI bodyI postI 20099 m c) ∗ debt c)) :=
  CSeg.Chains.append (segsOf_chains _ _ _ _ _ _ _ _ debt preI hpre _) ⟨fun _ => .rfl, segsOf_chains _ _ _ _ _ _ _ _ debt postI hpost _⟩

/-- Every semaphore of the program is scoped. -/
theorem all_scoped : ∀ s : SemLoc sig, s.isScoped .tc = true := by decide

/-- The whole run: every buffer at what the operations make of it, every semaphore at zero. -/
theorem run (ρ : Dev nD → PrngReg) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 20099 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) none_admitted (fun k => k.1.elim0) defs₀ Variants.none (fun _ => (∅ : Finset Unit)) (fun _ _ => (0 : ℕ)) loops none_ticket m ρ main
    (parts m)
    (fun c Q => by
      rw [main_parts m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debt c))
    (Tₙ := fun c => iprop(held (c : Thread nD τ) (ucRefs τ sig) (finalContents condOps preI bodyI postI 20099 m c)))
    (hch := parts_chain m)
    (hinit := by
      refine Pipeline.initEach (fun _ => (∅ : Finset Unit)) (fun _ _ => (0 : ℕ)) fun c => ?_
      rw [show unscopedBufs c (fun b => m ((c : Thread nD τ).loc b)) = held (c : Thread nD τ) (ucRefs τ sig) (launchContents m c) from Pipeline.unscopedBufs_held c (launchContents m c)]
      iintro ⟨⟨Hh, -, Ho, -, -, -⟩, -⟩
      imodintro
      isplitl [Hh]
      · iexact Hh
      · iexists ∅; iexact Ho)
    (QY := fun c s => ∀ b ∈ ucRefs τ sig, s.mem ((c : Dev nD), b) = finalContents condOps preI bodyI postI 20099 m c b)
    (hfin := fun c s' => by
      unfold held
      iintro ⟨Hh, Hs⟩
      ihave Hr := (pointsTo_read_all (ucRefs τ sig) (fun b => ((c : Dev nD), b)) (fun b => finalContents condOps preI bodyI postI 20099 m c b) s') $$ [Hh Hs]
      · isplitl [Hh] <;> iassumption
      icases Hr with ⟨%h, Hs⟩
      imodintro
      isplitr
      · ipureintro; exact h
      · iexact Hs)
    (hQ := fun _ h hz => ⟨fun c b hb => h c _ (devRef_mem_ucRefs b hb), funext fun g => hz g (Or.inr (all_scoped g.2))⟩)

/-! ## The arguments are kept -/

/-- The buffers the program is given. -/
abbrev given : List (Ref sig .tc) := [main_arg0, main_arg1, main_arg2, main_arg3, main_arg4, main_arg5, main_arg6, main_arg7, main_arg8, main_arg9, main_arg10]

/-- The buffers the operations after the loop write. -/
abbrev written : List (Ref sig .tc) := [main_v40, main_v41, main_c_3, main_v42, main_v43, main_c_4, main_v44, main_v45, main_c_5, main_v46, main_v47, main_v48, main_c_6, main_v49, main_v50, main_c_7, main_v51, main_v52, main_v53, main_c_8, main_v54, main_v55, main_c_9, main_v56, main_v57, main_v58, main_v59, main_v60, main_v61, main_v62, main_v63, main_c_10, main_v64, main_v65, main_c_11, main_v66, main_v67, main_v68, main_c_12, main_v69, main_v70, main_c_13, main_v71, main_v72, main_v73, main_c_14, main_v74, main_v75, main_c_15, main_v76, main_v77, main_v78, main_v79, main_v80, main_v81, main_v82, main_v83, main_v84, main_v85, main_cst_16, main_v86, main_cst_17, main_v87]

theorem written_all : (hostOps0_9 : List (HloOp τ sig (Elt F))).Forall fun op => op.writes ⊆ (written.map (Proc.devRef (τ := τ) .tc)).toFinset :=
  forall_writes_sub_of_map rfl

/-- The operations before the loop write none of the given buffers, -/
theorem before (V : Valuation τ sig (Elt F)) (b : Ref sig .tc) (h : b ∈ given) :
    afterL preI V (Proc.devRef .tc b) = V (Proc.devRef .tc b) := by
  simp only [preI, afterL_cons, afterL_nil]
  rw [after_of_writes_sub _ _ hostOps0_8_writes (by revert b; decide +kernel), after_of_writes_sub _ _ hostOps0_7_writes (by revert b; decide +kernel),
    after_of_writes_sub _ _ hostOps0_6_writes (by revert b; decide +kernel), after_of_writes_sub _ _ hostOps0_5_writes (by revert b; decide +kernel),
    after_of_writes_sub _ _ hostOps0_4_writes (by revert b; decide +kernel), after_of_writes_sub _ _ hostOps0_3_writes (by revert b; decide +kernel),
    after_of_writes_sub _ _ hostOps0_2_writes (by revert b; decide +kernel), after_of_writes_sub _ _ hostOps0_1_writes (by revert b; decide +kernel),
    after_of_writes_sub _ _ hostOps0_writes (by revert b; decide +kernel)]

theorem body_spares : ∀ b ∈ given, b ∉ while0Ops0_W := by decide +kernel
theorem test_spares : ∀ b ∈ given, b ∉ condOps_W := by decide +kernel

/-- no trip of the loop does, -/
theorem during (k : ℕ) (c : Dev nD) (b : Ref sig .tc) (h : b ∈ given) :
    atTrip condOps bodyI (entryContents preI m) k c (Proc.devRef .tc b) = entryContents preI m c (Proc.devRef .tc b) := by
  induction k with
  | zero => rfl
  | succ k ih =>
    rw [atTrip_succ]
    exact (after_of_writes_sub while0Ops0 _ while0Ops0_writes (body_spares b h)).trans ((after_of_writes_sub condOps _ condOps_writes (test_spares b h)).trans ih)

/-- and the operations after it do not either. -/
theorem kept (c : Dev nD) (b : Ref sig .tc) (h : b ∈ given) :
    finalContents condOps preI bodyI postI 20099 m c (Proc.devRef .tc b) = m ((c.tc : Thread nD τ).loc b) := by
  unfold finalContents
  simp only [postI, afterL_cons, afterL_nil]
  rw [after_of_writes_sub _ _ written_all (by revert b; decide +kernel), after_of_writes_sub _ _ condOps_writes (by revert b; decide +kernel), during m _ c b h]
  exact before _ b h

end Cert.ReferenceIdeal.Quiet

end
-- ==== Proof.Logs.lean ====
/-
Sums of exponentials on the extended reals: `exp` carries the program's two-term log-sum-exp to a sum, and a row's
log-softmax does not depend on what is taken off the row first.
-/
module

public import Idealize.ShloMosaic.PureOps.Ideal
public import Mathlib.Data.ENNReal.Inv
public import Mathlib.Data.ENNReal.BigOperators

@[expose] public section
noncomputable section
namespace Cert.Logs

open Idealize.ShloMosaic
open scoped ENNReal

/-- The exponential into the nonnegative numbers. -/
def ex : EReal → ℝ≥0∞
  | ⊥ => 0
  | ⊤ => ⊤
  | (r : ℝ) => ENNReal.ofReal (Real.exp r)

/-- Its inverse. -/
def lg (y : ℝ≥0∞) : EReal := Ideal.log (y : EReal)

@[simp] theorem ex_bot : ex ⊥ = 0 := rfl
@[simp] theorem ex_top : ex ⊤ = ⊤ := rfl
@[simp] theorem ex_coe (r : ℝ) : ex (r : EReal) = ENNReal.ofReal (Real.exp r) := rfl
@[simp] theorem ex_zero : ex 0 = 1 := by rw [← EReal.coe_zero, ex_coe]; simp

theorem ofReal_ne_zero (r : ℝ) : ENNReal.ofReal (Real.exp r) ≠ 0 := by
  rw [Ne, ENNReal.ofReal_eq_zero]; exact not_le.2 (Real.exp_pos r)

/-- The program's exponential is the nonnegative one. -/
theorem exp_eq (x : EReal) : Ideal.exp x = (ex x : EReal) := by
  induction x with
  | bot => rfl
  | top => rfl
  | coe r =>
    show ((Real.exp r : ℝ) : EReal) = _
    rw [ex_coe, EReal.coe_ennreal_ofReal, max_eq_left (Real.exp_pos r).le]

theorem log_eq (y : ℝ≥0∞) : Ideal.log (y : EReal) = lg y := rfl

theorem ex_lg (y : ℝ≥0∞) : ex (lg y) = y := by
  induction y with
  | top => rfl
  | coe r =>
    unfold lg
    rw [EReal.coe_nnreal_eq_coe_real]
    show ex (if (r : ℝ) ≤ 0 then (⊥ : EReal) else (Real.log r : EReal)) = _
    by_cases h : (r : ℝ) ≤ 0
    · rw [if_pos h, ex_bot]
      have : r = 0 := le_antisymm (by exact_mod_cast h) r.2
      rw [this]; rfl
    · rw [if_neg h, ex_coe, Real.exp_log (not_le.1 h), ENNReal.ofReal_coe_nnreal]

theorem ex_inj : Function.Injective ex := by
  intro x y h
  induction x with
  | bot =>
    induction y with
    | bot => rfl
    | top => simp at h
    | coe s => exact absurd h.symm (ofReal_ne_zero s)
  | top =>
    induction y with
    | bot => simp at h
    | top => rfl
    | coe s => exact absurd h.symm ENNReal.ofReal_ne_top
  | coe r =>
    induction y with
    | bot => exact absurd h (ofReal_ne_zero r)
    | top => exact absurd h ENNReal.ofReal_ne_top
    | coe s =>
      rw [ex_coe, ex_coe, ENNReal.ofReal_eq_ofReal_iff (Real.exp_pos r).le (Real.exp_pos s).le] at h
      rw [Real.exp_injective h]

theorem lg_ex (x : EReal) : lg (ex x) = x := ex_inj (ex_lg _)

theorem ex_eq_zero {x : EReal} : ex x = 0 ↔ x = ⊥ := ⟨fun h => ex_inj (h.trans ex_bot.symm), fun h => h ▸ rfl⟩
theorem ex_eq_top {x : EReal} : ex x = ⊤ ↔ x = ⊤ := ⟨fun h => ex_inj (h.trans ex_top.symm), fun h => h ▸ rfl⟩

theorem lg_eq_top {y : ℝ≥0∞} : lg y = ⊤ ↔ y = ⊤ := by rw [← ex_eq_top, ex_lg]
theorem lg_eq_bot {y : ℝ≥0∞} : lg y = ⊥ ↔ y = 0 := by rw [← ex_eq_zero, ex_lg]

theorem ex_add (x y : EReal) : ex (x + y) = ex x * ex y := by
  induction x with
  | bot => simp
  | top =>
    induction y with
    | bot => simp
    | top => simp
    | coe s => simp [ENNReal.top_mul (ofReal_ne_zero s)]
  | coe r =>
    induction y with
    | bot => simp
    | top => simp [ENNReal.mul_top (ofReal_ne_zero r)]
    | coe s => rw [← EReal.coe_add, ex_coe, ex_coe, ex_coe, Real.exp_add, ENNReal.ofReal_mul (Real.exp_pos r).le]

theorem ex_neg (x : EReal) : ex (-x) = (ex x)⁻¹ := by
  induction x with
  | bot => simp
  | top => simp
  | coe r => rw [← EReal.coe_neg, ex_coe, ex_coe, Real.exp_neg, ENNReal.ofReal_inv_of_pos (Real.exp_pos r)]

theorem lg_mul (a b : ℝ≥0∞) : lg (a * b) = lg a + lg b := ex_inj (by rw [ex_add, ex_lg, ex_lg, ex_lg])

/-- The two-term log-sum-exp as both programs spell it. -/
def lae (x y : EReal) : EReal := max x y + Ideal.log1p (Ideal.exp (0 - max (x - y) (-(x - y))))

theorem exp_log1p (y : ℝ≥0∞) : ex (Ideal.log1p (y : EReal)) = 1 + y := by
  unfold Ideal.log1p
  rw [show (1 : EReal) + (y : EReal) = ((1 + y : ℝ≥0∞) : EReal) by rw [EReal.coe_ennreal_add]; rfl, log_eq, ex_lg]

theorem exp_lae (x y : EReal) : ex (lae x y) = ex x + ex y := by
  unfold lae
  rw [ex_add, exp_eq, exp_log1p]
  induction x with
  | bot =>
    induction y with
    | bot => simp
    | top => simp
    | coe s => simp
  | top =>
    induction y with
    | bot => simp
    | top => simp
    | coe s => simp
  | coe r =>
    induction y with
    | bot => simp
    | top => simp
    | coe s =>
      rcases le_total r s with h | h
      · have e : (0 : EReal) - max ((r : EReal) - s) (-((r : EReal) - s)) = ((r - s : ℝ) : EReal) := by
          rw [← EReal.coe_sub, ← EReal.coe_neg, max_eq_right (EReal.coe_le_coe_iff.2 (by linarith)), ← EReal.coe_zero, ← EReal.coe_sub]
          congr 1; ring
        rw [e, max_eq_right (EReal.coe_le_coe_iff.2 h), mul_add, mul_one, ← ex_add, ← EReal.coe_add, add_comm]
        congr 3; ring
      · have e : (0 : EReal) - max ((r : EReal) - s) (-((r : EReal) - s)) = ((s - r : ℝ) : EReal) := by
          rw [← EReal.coe_sub, ← EReal.coe_neg, max_eq_left (EReal.coe_le_coe_iff.2 (by linarith)), ← EReal.coe_zero, ← EReal.coe_sub]
          congr 1; ring
        rw [e, max_eq_left (EReal.coe_le_coe_iff.2 h), mul_add, mul_one, ← ex_add, ← EReal.coe_add]
        congr 3; ring

/-- A finite sum of exponentials, as an extended real. -/
theorem sum_exp {ι : Type*} (s : Finset ι) (x : ι → EReal) : ∑ k ∈ s, Ideal.exp (x k) = ((∑ k ∈ s, ex (x k) : ℝ≥0∞) : EReal) := by
  classical
  induction s using Finset.induction_on with
  | empty => simp
  | insert a s ha ih => rw [Finset.sum_insert ha, Finset.sum_insert ha, ih, exp_eq, EReal.coe_ennreal_add]

/-- The logarithm of a row's summed exponentials. -/
def lse {ι : Type*} (s : Finset ι) (x : ι → EReal) : EReal := lg (∑ k ∈ s, ex (x k))

theorem log_sum_exp {ι : Type*} (s : Finset ι) (x : ι → EReal) : Ideal.log (∑ k ∈ s, Ideal.exp (x k)) = lse s x := by
  rw [sum_exp, log_eq, lse]

/-- Taking the row's maximum off first changes nothing. -/
theorem shifted {ι : Type*} (s : Finset ι) (x : ι → EReal) (M : EReal) (hM : ∀ k ∈ s, x k ≤ M) (j : ι) (hj : j ∈ s) (hjM : x j = M) (i : ι) (hi : i ∈ s) :
    x i - M - lse s (fun k => x k - M) = x i - lse s x := by
  have low : ex M ≤ ∑ k ∈ s, ex (x k) := hjM ▸ Finset.single_le_sum (f := fun k => ex (x k)) (fun _ _ => zero_le) hj
  induction M with
  | bot =>
    have hx : x i = ⊥ := le_bot_iff.1 (hM i hi)
    rw [hx]; simp
  | top =>
    rw [show (lse s x : EReal) = ⊤ by rw [lse, lg_eq_top]; exact top_le_iff.1 (by simpa using low)]
    simp
  | coe m =>
    have hsum : ∑ k ∈ s, ex (x k - (m : EReal)) = (∑ k ∈ s, ex (x k)) * ex (-(m : EReal)) := by
      rw [Finset.sum_mul]; exact Finset.sum_congr rfl fun k _ => by rw [sub_eq_add_neg, ex_add]
    have ne0 : ∑ k ∈ s, ex (x k) ≠ 0 := fun h => by
      rw [h] at low; simp at low; linarith [Real.exp_pos m]
    have neT : ∑ k ∈ s, ex (x k) ≠ ⊤ := by
      rw [ENNReal.sum_ne_top]; intro k hk h
      rw [ex_eq_top] at h
      exact absurd (h ▸ hM k hk) (by simp)
    unfold lse
    rw [hsum, lg_mul, lg_ex]
    obtain ⟨l, hl⟩ : ∃ l : ℝ, lg (∑ k ∈ s, ex (x k)) = (l : EReal) := by
      refine ⟨(lg (∑ k ∈ s, ex (x k))).toReal, (EReal.coe_toReal ?_ ?_).symm⟩
      · rwa [Ne, lg_eq_top]
      · rwa [Ne, lg_eq_bot]
    rw [hl]
    induction x i with
    | bot => simp
    | top => rw [← EReal.coe_neg, ← EReal.coe_add, EReal.top_sub_coe, EReal.top_sub_coe, EReal.top_sub_coe]
    | coe r => rw [← EReal.coe_neg, ← EReal.coe_add, ← EReal.coe_sub, ← EReal.coe_sub, ← EReal.coe_sub]; congr 1; ring

/-- A log-probability is at most zero. -/
theorem exp_le_one {ι : Type*} (s : Finset ι) (x : ι → EReal) (i : ι) (hi : i ∈ s) : ex (x i - lse s x) ≤ 1 := by
  have low : ex (x i) ≤ ∑ k ∈ s, ex (x k) := Finset.single_le_sum (f := fun k => ex (x k)) (fun _ _ => zero_le) hi
  rw [sub_eq_add_neg, ex_add, ex_neg, lse, ex_lg, ← div_eq_mul_inv]
  exact ENNReal.div_le_of_le_mul (by rwa [one_mul])

end Cert.Logs
end
-- ==== Proof.JointValue.lean ====
/-
The joint kernel's blocks, entry by entry, on the extended reals.
-/
module

public import proofs.«01_k».proof.Proof.JointBody
public import proofs.«01_k».proof.Proof.Logs
public import Idealize.ShloMosaic.Lib.Pointwise
public import Idealize.ShloMosaic.Lib.KernelVsHost
public import Idealize.ShloMosaic.Lib.IdealHost

@[expose] public section
set_option maxRecDepth 16384
noncomputable section
namespace Cert.KernelIdeal.Joint

open Idealize.ShloMosaic Idealize.ShloMosaic.TcCoe Idealize.ShloMosaic.Tactic
open Cert.KernelIdeal Cert.KernelIdeal.Gen Cert.Logs

/-- Column `128 t + u`: step `t` of the block, lane `u`. -/
abbrev col (t : Fin 40) (u : Fin 128) : Fin 5120 := ⟨128 * t.val + u.val, by omega⟩

variable (e : FVec Ideal S320x40 .f32) (d : FVec Ideal S320x128 .f32) (u : FVec Ideal S321x1024 .bf16) (w : FVec Ideal S321x128 .f32)

theorem jt_apply (t : Fin 40) (j : Fin 320) (l : Fin 128) : jt e d t (ix2 j l) = Ideal.tanh (e (ix2 j t) + d (ix2 j l)) := by
  unfold jt
  pointwise

theorem steps_get : ∀ t : Fin 40, steps[t.val]'(t.isLt) = t := by decide

theorem mapped_get {α : Type*} (f : Fin 40 → α) (t : Fin 40) : (steps.map f)[t.val]'(t.isLt) = f t :=
  (List.getElem_map f).trans (congrArg f (steps_get t))

theorem joined_low (j : Fin 320) (t : Fin 40) (l : Fin 128) : joined e d (ix2 ⟨j.val, by omega⟩ (col t l)) = jt e d t (ix2 j l) := by
  unfold joined
  refine (concatenate_pair_apply_left (t := S321x5120) (s₁ := S320x5120) (s₂ := S1x5120) _ _ _ _ _ rfl (ix2 j (col t l)) ?_).trans ?_
  · intro b
    match b with
    | 0 => rfl
    | 1 => rfl
  · refine concatenate_apply_piece (t := S320x5120) _ (steps.map fun t => ⟨S320x128, truncf .bf16 (jt e d t) bitsLt_bf16_f32⟩) _ _ t.val t.isLt S320x128 (truncf .bf16 (jt e d t) bitsLt_bf16_f32) ?_ rfl (128 * t.val) ?_ (ix2 j l) ?_ ?_
    · exact mapped_get _ t
    · rw [List.map_map, List.map_take, List.map_map]
      show ((steps.map fun _ => 128).take t.val).sum = 128 * t.val
      rw [List.map_const', List.take_replicate, List.sum_replicate, min_eq_left (by show t.val ≤ 40; omega), smul_eq_mul, mul_comm]
    · intro b hb
      match b with
      | 0 => rfl
      | 1 => exact absurd rfl hb
    · rfl

theorem joined_high (c : Fin 5120) : joined e d (ix2 ⟨320, by decide⟩ c) = 1 := by
  unfold joined
  refine (concatenate_pair_apply_right (t := S321x5120) (s₁ := S320x5120) (s₂ := S1x5120) _ _ _ _ _ rfl rfl (ix2 0 c) ?_ ?_).trans ?_
  · intro b hb
    match b with
    | 0 => exact absurd rfl hb
    | 1 => rfl
  · rfl
  · exact Ideal.ofBits_one_bf16

/-- A symbol's logit at a step and lane. -/
def logit (t : Fin 40) (l : Fin 128) (v : Fin 1024) : EReal :=
  ∑ j : Fin 320, jt e d t (ix2 j l) * u (ix2 ⟨j.val, by omega⟩ v) + u (ix2 ⟨320, by decide⟩ v)

theorem logits_apply (t : Fin 40) (l : Fin 128) (v : Fin 1024) : logits e d u (ix2 v (col t l)) = logit e d u t l v := by
  unfold logits
  pointwise
  rw [Fin.sum_univ_castSucc]
  unfold logit
  refine congrArg₂ (· + ·) (Finset.sum_congr rfl fun j _ => ?_) ?_
  · rw [mul_comm]
    exact congrArg (· * _) (joined_low e d j t l)
  · refine (congrArg (_ * ·) (joined_high e d (col t l))).trans (mul_one _)

theorem lse_apply (t : Fin 40) (l : Fin 128) : lse e d u (ix2 0 (col t l)) = Logs.lse Finset.univ (logit e d u t l) := by
  unfold lse
  pointwise
  rw [← log_sum_exp]
  simp only [logits_apply]

theorem blankRow_apply (t : Fin 40) (l : Fin 128) : blankRow (blanks e d u) t (ix3 0 0 l) = logit e d u t l 0 - Logs.lse Finset.univ (logit e d u t l) := by
  rw [← lse_apply, ← logits_apply]
  unfold blankRow blanks
  pointwise

theorem emitRow_apply (t : Fin 40) (l : Fin 128) : emitRow (hit e d w t) (lse e d u) t (ix3 0 0 l)
    = (∑ j : Fin 320, jt e d t (ix2 j l) * w (ix2 ⟨j.val, by omega⟩ l) + w (ix2 ⟨320, by decide⟩ l)) - Logs.lse Finset.univ (logit e d u t l) := by
  rw [← lse_apply]
  unfold emitRow hit
  pointwise

/-- The encoder part. -/
theorem enc_apply (x2 : Vec Ideal S144x320 .f32) (x0 : Vec Ideal S1x40x144 .f32) (j : Fin 320) (t : Fin 40) :
    k0_pay3 x2 x0 (ix2 j t) = ∑ k : Fin 144, x0 (ix3 0 t k) * x2 (ix2 k j) := by
  pointwise [k0_pay3]
  exact Finset.sum_congr rfl fun k _ => mul_comm _ _

/-- The decoder part. -/
theorem dec_apply (x1 : Vec Ideal S1x128x321 .f32) (x3 : Vec Ideal S321x320 .f32) (j : Fin 320) (l : Fin 128) :
    decPart x1 x3 (ix2 j l) = ∑ k : Fin 321, x1 (ix3 0 l k) * x3 (ix2 k j) := by
  unfold decPart
  pointwise [k0_pay1]
  exact Finset.sum_congr rfl fun k _ => mul_comm _ _

/-- The output weight's column at the target. -/
theorem tgt_apply (x4 : Vec Ideal S321x1024 .bf16) (x5 : Vec Ideal S1x1x128 .i32) (k : Fin 321) (l : Fin 128) (v : Fin 1024) (h : x5 (ix3 0 0 l) = BitVec.ofNat 32 v.val) :
    tgtPart x4 x5 (ix2 k l) = x4 (ix2 k v) := by
  unfold tgtPart
  pointwise [k0_pay2]
  have word : ∀ a b : Fin 1024, BitVec.ofNat 32 a.val = BitVec.ofNat 32 b.val ↔ a = b := fun a b => by
    constructor
    · intro e
      have := congrArg BitVec.toNat e
      rw [BitVec.toNat_ofNat, BitVec.toNat_ofNat, Nat.mod_eq_of_lt (by omega), Nat.mod_eq_of_lt (by omega)] at this
      exact Fin.ext this
    · rintro rfl; rfl
  rw [Finset.sum_eq_single v]
  · rw [h]
    simp only [IntOp.cmpi, BEq.rfl]; rfl
  · intro a _ ha
    rw [h]
    simp only [IntOp.cmpi]
    rw [show (BitVec.ofNat 32 a.val == BitVec.ofNat 32 v.val) = false from by simpa using fun e => ha ((word a v).1 e)]; rfl
  · intro hv; exact absurd (Finset.mem_univ _) hv

end Cert.KernelIdeal.Joint
end
-- ==== Proof.JointOut.lean ====
/-
What the joint region leaves in its two result arrays, entry by entry, over the arrays it is entered with.
-/
module

public import proofs.«01_k».proof.Proof.JointValue
public import proofs.«01_k».proof.Proof.JointRegion
public import Idealize.ShloMosaic.Lib.Pipeline.ValueKit

@[expose] public section
set_option maxRecDepth 16384
noncomputable section
namespace Cert.KernelIdeal.Joint

open Idealize.ShloMosaic Idealize.ShloMosaic.TcCoe Idealize.ShloMosaic.Tactic
open Idealize.ShloMosaic.Pipeline (Dat Cfg Window)
open Cert.KernelIdeal Cert.KernelIdeal.Gen Cert.Logs

variable (V : Dev nD → Valuation τ sig (Elt Ideal)) (c : Dev nD)

/-- The arrays the region reads. -/
abbrev encA : Vec Ideal S4x200x144 .f32 := V c (Proc.devRef .tc main_arg0)
abbrev decA : Vec Ideal S4x128x321 .f32 := V c (Proc.devRef .tc main_v2)
abbrev encW : Vec Ideal S144x320 .f32 := V c (Proc.devRef .tc main_arg2)
abbrev decW : Vec Ideal S321x320 .f32 := V c (Proc.devRef .tc main_v5)
abbrev outW : Vec Ideal S321x1024 .bf16 := V c (Proc.devRef .tc main_v8)
abbrev tgtA : Vec Ideal S4x1x128 .i32 := V c (Proc.devRef .tc main_v10)

/-- The joint activation of batch `b` at step `t`, lane `l`. -/
def act (b : Fin 4) (t : Fin 200) (l : Fin 128) (j : Fin 320) : EReal :=
  Ideal.tanh ((∑ k : Fin 144, encA V c (ix3 b t k) * encW V c (ix2 k j)) + ∑ k : Fin 321, decA V c (ix3 b l k) * decW V c (ix2 k j))

/-- The logits there. -/
def logitAt (b : Fin 4) (t : Fin 200) (l : Fin 128) (v : Fin 1024) : EReal :=
  ∑ j : Fin 320, act V c b t l j * outW V c (ix2 ⟨j.val, by omega⟩ v) + outW V c (ix2 ⟨320, by decide⟩ v)

/-- The target symbol of a lane. -/
def symbol (b : Fin 4) (l : Fin 128) : Fin 1024 := ⟨(tgtA V c (ix3 b 0 l)).toNat % 1024, Nat.mod_lt _ (by decide)⟩

/-- The log-probability of symbol `v`. -/
def logp (b : Fin 4) (t : Fin 200) (l : Fin 128) (v : Fin 1024) : EReal := logitAt V c b t l v - Logs.lse Finset.univ (logitAt V c b t l)

/-- The batch and the step of a grid point. -/
abbrev bOf (t : Fin cfg0.N) : Fin 4 := ⟨t.val / 5, by have : t.val < 20 := Nat.lt_of_lt_of_eq t.isLt N_0; omega⟩
abbrev tOf (t : Fin cfg0.N) (s : Fin 40) : Fin 200 := ⟨40 * (t.val % 5) + s.val, by omega⟩

theorem idx0 : ∀ t : Fin cfg0.N, win0_0.index t = ![t.val / 5, t.val % 5, 0] ∧ win0_1.index t = ![t.val / 5, 0, 0] ∧ win0_2.index t = ![0, 0] ∧ win0_3.index t = ![0, 0]
    ∧ win0_4.index t = ![0, 0] ∧ win0_5.index t = ![t.val / 5, 0, 0] ∧ win0_6.index t = ![t.val / 5, t.val % 5, 0] ∧ win0_7.index t = ![t.val / 5, t.val % 5, 0] := by
  decide +kernel

theorem blk_0 (t : Fin cfg0.N) (s : Fin 40) (k : Fin 144) : (blk V c 0 t : Vec Ideal S1x40x144 .f32) (ix3 0 s k) = encA V c (ix3 (bOf t) (tOf t s) k) := by
  blk_ext [blk, idx0 t]
theorem blk_1 (t : Fin cfg0.N) (l : Fin 128) (k : Fin 321) : (blk V c 1 t : Vec Ideal S1x128x321 .f32) (ix3 0 l k) = decA V c (ix3 (bOf t) l k) := by
  blk_ext [blk, idx0 t]
theorem blk_2 (t : Fin cfg0.N) (k : Fin 144) (j : Fin 320) : (blk V c 2 t : Vec Ideal S144x320 .f32) (ix2 k j) = encW V c (ix2 k j) := by
  blk_ext [blk, idx0 t]
theorem blk_3 (t : Fin cfg0.N) (k : Fin 321) (j : Fin 320) : (blk V c 3 t : Vec Ideal S321x320 .f32) (ix2 k j) = decW V c (ix2 k j) := by
  blk_ext [blk, idx0 t]
theorem blk_4 (t : Fin cfg0.N) (k : Fin 321) (v : Fin 1024) : (blk V c 4 t : Vec Ideal S321x1024 .bf16) (ix2 k v) = outW V c (ix2 k v) := by
  blk_ext [blk, idx0 t]
theorem blk_5 (t : Fin cfg0.N) (l : Fin 128) : (blk V c 5 t : Vec Ideal S1x1x128 .i32) (ix3 0 0 l) = tgtA V c (ix3 (bOf t) 0 l) := by
  blk_ext [blk, idx0 t]

theorem jt_eq (t : Fin cfg0.N) (s : Fin 40) (l : Fin 128) (j : Fin 320) :
    jt (k0_pay3 (blk V c 2 t : Vec Ideal S144x320 .f32) (blk V c 0 t : Vec Ideal S1x40x144 .f32)) (dec V c t) s (ix2 j l) = act V c (bOf t) (tOf t s) l j := by
  rw [jt_apply, enc_apply]
  unfold dec act
  rw [dec_apply]
  simp only [blk_0, blk_1, blk_2, blk_3]

theorem logit_eq (t : Fin cfg0.N) (s : Fin 40) (l : Fin 128) :
    logit (k0_pay3 (blk V c 2 t : Vec Ideal S144x320 .f32) (blk V c 0 t : Vec Ideal S1x40x144 .f32)) (dec V c t) (blk V c 4 t) s l = logitAt V c (bOf t) (tOf t s) l := by
  funext v
  unfold logit logitAt
  simp only [jt_eq]
  rw [blk_4]
  simp only [blk_4]

theorem blank_cell (t : Fin cfg0.N) (s : Fin 40) (l : Fin 128) :
    blankRow (blanks (k0_pay3 (blk V c 2 t : Vec Ideal S144x320 .f32) (blk V c 0 t : Vec Ideal S1x40x144 .f32)) (dec V c t) (blk V c 4 t)) s (ix3 0 0 l)
      = logp V c (bOf t) (tOf t s) l 0 := by
  rw [blankRow_apply, logit_eq]; rfl

theorem word_eq (hV : ∀ (b : Fin 4) (l : Fin 128), (tgtA V c (ix3 b 0 l)).toNat < 1024) (t : Fin cfg0.N) (l : Fin 128) :
    (blk V c 5 t : Vec Ideal S1x1x128 .i32) (ix3 0 0 l) = BitVec.ofNat 32 (symbol V c (bOf t) l).val := by
  rw [blk_5]
  unfold symbol
  apply BitVec.eq_of_toNat_eq
  rw [BitVec.toNat_ofNat]
  have := hV (bOf t) l
  show _ = _ % 1024 % 2 ^ 32
  omega

theorem tgt_eq (hV : ∀ (b : Fin 4) (l : Fin 128), (tgtA V c (ix3 b 0 l)).toNat < 1024) (t : Fin cfg0.N) (k : Fin 321) (l : Fin 128) :
    tgt V c t (ix2 k l) = outW V c (ix2 k (symbol V c (bOf t) l)) := by
  unfold tgt
  rw [tgt_apply _ _ _ _ _ (word_eq V c hV t l), blk_4]

theorem emit_cell (hV : ∀ (b : Fin 4) (l : Fin 128), (tgtA V c (ix3 b 0 l)).toNat < 1024) (t : Fin cfg0.N) (s : Fin 40) (l : Fin 128) :
    emitRow (hit (k0_pay3 (blk V c 2 t : Vec Ideal S144x320 .f32) (blk V c 0 t : Vec Ideal S1x40x144 .f32)) (dec V c t) (tgt V c t) s)
        (lse (k0_pay3 (blk V c 2 t : Vec Ideal S144x320 .f32) (blk V c 0 t : Vec Ideal S1x40x144 .f32)) (dec V c t) (blk V c 4 t)) s (ix3 0 0 l)
      = logp V c (bOf t) (tOf t s) l (symbol V c (bOf t) l) := by
  rw [emitRow_apply, logit_eq]
  unfold logp logitAt
  simp only [jt_eq, tgt_eq V c hV]

theorem cell_eq (y : S1x40x128.Idx) : cell y = ix3 0 0 (y 2) := by funext a; match a with | 0 => rfl | 1 => rfl | 2 => rfl

/-- The blank array. -/
theorem blank_arr : (dat V c).arrAt 6 cfg0.N = fun i : S4x200x128.Idx => logp V c (i 0) (i 1) (i 2) 0 := by
  refine (dat V c).arrAt_eq_of_covers 6 _ (by decide +kernel) fun t hf y => ?_
  blk_simp
  rw [after_6]
  refine ((congrArg (blankRow _ _) (cell_eq y)).trans (blank_cell V c t (y 1) (y 2))).trans ?_
  have e : (win0_6.blk t).view.emb y = ix3 (bOf t) (tOf t (y 1)) (y 2) := by blk_ext [idx0 t]
  rw [e]; rfl

/-- The emit array. -/
theorem emit_arr (hV : ∀ (b : Fin 4) (l : Fin 128), (tgtA V c (ix3 b 0 l)).toNat < 1024) :
    (dat V c).arrAt 7 cfg0.N = fun i : S4x200x128.Idx => logp V c (i 0) (i 1) (i 2) (symbol V c (i 0) (i 2)) := by
  refine (dat V c).arrAt_eq_of_covers 7 _ (by decide +kernel) fun t hf y => ?_
  blk_simp
  rw [after_7]
  refine ((congrArg (emitRow _ _ _) (cell_eq y)).trans (emit_cell V c hV t (y 1) (y 2))).trans ?_
  have e : (win0_7.blk t).view.emb y = ix3 (bOf t) (tOf t (y 1)) (y 2) := by blk_ext [idx0 t]
  rw [e]; rfl

end Cert.KernelIdeal.Joint
end
-- ==== Proof.HostIn.lean ====
/-
What the joint region is entered with, entry by entry, over the launch's arguments.
-/
module

public import proofs.«01_k».proof.Proof.JointOut
public import proofs.«01_k».proof.Proof.Whole
public import Idealize.ShloMosaic.Lib.Claim

@[expose] public section
set_option maxRecDepth 16384
noncomputable section
namespace Cert.KernelIdeal.Value

open Idealize.ShloMosaic Idealize.ShloMosaic.TcCoe Idealize.ShloMosaic.Tactic
open Idealize.ShloMosaic.StableHlo
open Cert.KernelIdeal Cert.KernelIdeal.Gen Cert.Logs

variable (m : (ℓ : Loc nD τ sig) → Buf (Elt Ideal) ℓ) (c : Dev nD)

abbrev a0 : Vec Ideal S4x200x144 .f32 := m ((c.tc : Thread nD τ).loc main_arg0)
abbrev a1 : Vec Ideal S4x101x320 .f32 := m ((c.tc : Thread nD τ).loc main_arg1)
abbrev a2 : Vec Ideal S144x320 .f32 := m ((c.tc : Thread nD τ).loc main_arg2)
abbrev a3 : Vec Ideal S320 .f32 := m ((c.tc : Thread nD τ).loc main_arg3)
abbrev a4 : Vec Ideal S320x320 .f32 := m ((c.tc : Thread nD τ).loc main_arg4)
abbrev a5 : Vec Ideal S320 .f32 := m ((c.tc : Thread nD τ).loc main_arg5)
abbrev a6 : Vec Ideal S320x1024 .f32 := m ((c.tc : Thread nD τ).loc main_arg6)
abbrev a7 : Vec Ideal S1024 .f32 := m ((c.tc : Thread nD τ).loc main_arg7)
abbrev a8 : Vec Ideal S4x100 .i32 := m ((c.tc : Thread nD τ).loc main_arg8)
abbrev a9 : Vec Ideal S4 .i32 := m ((c.tc : Thread nD τ).loc main_arg9)
abbrev a10 : Vec Ideal S4 .i32 := m ((c.tc : Thread nD τ).loc main_arg10)

theorem v2_eq : V5 m c (Proc.devRef .tc main_v2) = pad S4x128x321 ![0, 0, 0] ![0, 27, 0] ![0, 0, 0]
      (concatenate S4x101x321 2 [⟨S4x101x320, a1 m c⟩, ⟨S4x101x1, broadcastInDim S4x101x1 ![] bcast_S_S4x101x1 (constant (F := Ideal) S_ .f32 0x3F800000#32)⟩] concatenates_S4x101x320_S4x101x1_S4x101x321_d2)
      (sitofp (F := Ideal) .f32 (constantI S_ 32 0#32)) pads_S4x101x321_S4x128x321_000_0270_000 h_S_ := by
  unfold_abbrev_sides
  after_results
  rfl
theorem v5_eq : V5 m c (Proc.devRef .tc main_v5) = concatenate S321x320 0 [⟨S320x320, a4 m c⟩, ⟨S1x320, broadcastInDim S1x320 ![1] bcast_S320_S1x320_1 (addf (a3 m c) (a5 m c) : FVec Ideal S320 .f32)⟩] concatenates_S320x320_S1x320_S321x320_d0 := by
  unfold_abbrev_sides
  after_results
theorem v8_eq : V5 m c (Proc.devRef .tc main_v8) = truncf (F := Ideal) .bf16 (concatenate S321x1024 0 [⟨S320x1024, a6 m c⟩, ⟨S1x1024, broadcastInDim S1x1024 ![1] bcast_S1024_S1x1024_1 (a7 m c)⟩] concatenates_S320x1024_S1x1024_S321x1024_d0) bitsLt_bf16_f32 := by
  unfold_abbrev_sides
  after_results
theorem v10_eq : V5 m c (Proc.devRef .tc main_v10) = broadcastInDim S4x1x128 ![0, 2] bcast_S4x128_S4x1x128_0_2
      (pad S4x128 ![0, 0] ![0, 28] ![0, 0] (a8 m c) (constantI S_ 32 0#32) pads_S4x100_S4x128_000_0280 h_S_) := by
  unfold_abbrev_sides
  after_results
  rfl

theorem decA_low (b : Fin 4) (l : Fin 128) (hl : l.val < 101) (k : Fin 320) : Joint.decA (V5 m) c (ix3 b l ⟨k.val, by omega⟩) = a1 m c (ix3 b ⟨l.val, hl⟩ k) := by
  refine (congrFun (v2_eq m c) _).trans ?_
  pointwise
  exact dif_pos ⟨hl, by omega⟩
theorem decA_high (b : Fin 4) (l : Fin 128) (hl : l.val < 101) : Joint.decA (V5 m) c (ix3 b l ⟨320, by decide⟩) = 1 := by
  refine (congrFun (v2_eq m c) _).trans ?_
  pointwise
  exact dif_pos hl
theorem decW_low (k j : Fin 320) : Joint.decW (V5 m) c (ix2 ⟨k.val, by omega⟩ j) = a4 m c (ix2 k j) := by
  refine (congrFun (v5_eq m c) _).trans ?_
  pointwise
theorem decW_high (j : Fin 320) : Joint.decW (V5 m) c (ix2 ⟨320, by decide⟩ j) = a3 m c (ix1 j) + a5 m c (ix1 j) := by
  refine (congrFun (v5_eq m c) _).trans ?_
  pointwise
theorem outW_low (k : Fin 320) (v : Fin 1024) : Joint.outW (V5 m) c (ix2 ⟨k.val, by omega⟩ v) = a6 m c (ix2 k v) := by
  refine (congrFun (v8_eq m c) _).trans ?_
  pointwise
theorem outW_high (v : Fin 1024) : Joint.outW (V5 m) c (ix2 ⟨320, by decide⟩ v) = a7 m c (ix1 v) := by
  refine (congrFun (v8_eq m c) _).trans ?_
  pointwise
theorem tgtA_low (b : Fin 4) (l : Fin 128) (hl : l.val < 100) : Joint.tgtA (V5 m) c (ix3 b 0 l) = a8 m c (ix2 b ⟨l.val, hl⟩) := by
  refine (congrFun (v10_eq m c) _).trans ?_
  pointwise
  exact dif_pos hl
theorem tgtA_high (b : Fin 4) (l : Fin 128) (hl : ¬l.val < 100) : Joint.tgtA (V5 m) c (ix3 b 0 l) = 0#32 := by
  refine (congrFun (v10_eq m c) _).trans ?_
  pointwise
  exact dif_neg hl

theorem encA_eq : Joint.encA (V5 m) c = a0 m c := by
  unfold_abbrev_sides
  after_results
theorem encW_eq : Joint.encW (V5 m) c = a2 m c := by
  unfold_abbrev_sides
  after_results

/-- The logits of a cell of the lattice, over the arguments. -/
def cellLogit (b : Fin 4) (t : Fin 200) (u : Fin 101) (v : Fin 1024) : EReal :=
  ∑ j : Fin 320, Ideal.tanh (((∑ k : Fin 144, a0 m c (ix3 b t k) * a2 m c (ix2 k j)) + a3 m c (ix1 j)) + ((∑ k : Fin 320, a1 m c (ix3 b u k) * a4 m c (ix2 k j)) + a5 m c (ix1 j)))
      * a6 m c (ix2 j v) + a7 m c (ix1 v)

theorem logitAt_eq (b : Fin 4) (t : Fin 200) (l : Fin 128) (hl : l.val < 101) : Joint.logitAt (V5 m) c b t l = cellLogit m c b t ⟨l.val, hl⟩ := by
  funext v
  unfold Joint.logitAt cellLogit
  rw [outW_high]
  refine congrArg (· + _) (Finset.sum_congr rfl fun j _ => ?_)
  rw [outW_low]
  refine congrArg (· * _) ?_
  unfold Joint.act
  rw [encA_eq, encW_eq]
  refine congrArg Ideal.tanh ?_
  have e : ∑ k : Fin 321, Joint.decA (V5 m) c (ix3 b l k) * Joint.decW (V5 m) c (ix2 k j)
      = (∑ k : Fin 320, a1 m c (ix3 b ⟨l.val, hl⟩ k) * a4 m c (ix2 k j)) + (a3 m c (ix1 j) + a5 m c (ix1 j)) := by
    rw [Fin.sum_univ_castSucc]
    refine congrArg₂ (· + ·) (Finset.sum_congr rfl fun k _ => congrArg₂ (· * ·) (decA_low m c b l hl k) (decW_low m c k j)) ?_
    exact (congrArg₂ (· * ·) (decA_high m c b l hl) (decW_high m c j)).trans (one_mul _)
  rw [e]
  abel

/-- A cell's log-probabilities. -/
def cellLogp (b : Fin 4) (t : Fin 200) (u : Fin 101) (v : Fin 1024) : EReal := cellLogit m c b t u v - lse Finset.univ (cellLogit m c b t u)

theorem logp_eq (b : Fin 4) (t : Fin 200) (l : Fin 128) (hl : l.val < 101) (v : Fin 1024) : Joint.logp (V5 m) c b t l v = cellLogp m c b t ⟨l.val, hl⟩ v := by
  unfold Joint.logp cellLogp
  rw [logitAt_eq m c b t l hl]

end Cert.KernelIdeal.Value
end
-- ==== Proof.Skew.lean ====
/-
The skewed table, read at a diagonal and a lane.
-/
module

public import proofs.«01_k».proof.Proof.LossBody
public import Idealize.ShloMosaic.Lib.Pointwise
public import Idealize.ShloMosaic.Lib.KernelVsHost

@[expose] public section
set_option maxRecDepth 16384
noncomputable section
namespace Cert.KernelIdeal.Loss

open Idealize.ShloMosaic Idealize.ShloMosaic.TcCoe Idealize.ShloMosaic.Tactic
open Cert.KernelIdeal Cert.KernelIdeal.Gen

variable {F : FTy → Type} [FloatOps F] [Named F]

/-- Which lanes a step of the skew moves. -/
theorem bitSet_apply (k : BitVec 32) (d : Fin 328) (u : Fin 128) : bitSet k (ix2 d u) = BitVec.ofBool (decide (BitVec.ofNat 32 u.val &&& k ≠ 0#32)) := by
  unfold bitSet
  pointwise
  simp only [IntOp.cmpi, IntOp.andi]
  congr 1
  by_cases h : BitVec.ofNat 32 u.val &&& k = 0#32 <;> simp [h]

theorem and_word (a n : ℕ) (ha : a < 328) (hn : n < 328) : BitVec.ofNat 32 a &&& BitVec.ofNat 32 n = BitVec.ofNat 32 (a &&& n) := by
  apply BitVec.eq_of_toNat_eq
  have : a &&& n ≤ a := Nat.and_le_left
  rw [BitVec.toNat_and, BitVec.toNat_ofNat, BitVec.toNat_ofNat, BitVec.toNat_ofNat, Nat.mod_eq_of_lt (by omega), Nat.mod_eq_of_lt (by omega), Nat.mod_eq_of_lt (by omega)]

/-- A step of the skew moves its lanes down. -/
theorem shift_apply (n : ℕ) (hn : n < 328) (u : Fin 128) (hb : (u.val &&& n) = 0 ∨ (u.val &&& n) = n) (x : FVec F S328x128 .f32) (d : Fin 328) :
    shift (BitVec.ofNat 32 n) x (ix2 d u) = x (ix2 ⟨(d.val + 328 - (u.val &&& n)) % 328, Nat.mod_lt _ (by decide)⟩ u) := by
  unfold shift
  pointwise
  have hd := d.isLt
  have hu : u.val &&& n ≤ u.val := Nat.and_le_left
  have hu' := u.isLt
  rw [bitSet_apply, and_word _ _ (by omega) hn]
  by_cases h : u.val &&& n = 0
  · rw [h]
    show x _ = x _
    congr 2; apply Fin.ext
    show d.val = (d.val + 328 - 0) % 328
    omega
  · have h1 : u.val &&& n = n := hb.resolve_left h
    rw [h1] at h ⊢
    have h2 : BitVec.ofNat 32 n ≠ 0#32 := fun e => h (by simpa [Nat.mod_eq_of_lt (show n < 4294967296 by omega)] using congrArg BitVec.toNat e)
    rw [show BitVec.ofBool (decide (BitVec.ofNat 32 n ≠ 0#32)) = 1#1 by rw [decide_eq_true h2]; rfl]
    show x _ = x _
    congr 2; apply Fin.ext
    show (d.val + 328 - (BitVec.ofNat 32 n).toNat % 328) % 328 = _
    rw [BitVec.toNat_ofNat, Nat.mod_eq_of_lt (show n < 2 ^ 32 by omega), Nat.mod_eq_of_lt hn]

theorem bits_sum : ∀ u : Fin 128, ((u.val &&& 1) + (u.val &&& 2) + (u.val &&& 4) + (u.val &&& 8) + (u.val &&& 16) + (u.val &&& 32) + (u.val &&& 64) = u.val)
    ∧ ((u.val &&& 1) = 0 ∨ (u.val &&& 1) = 1) ∧ ((u.val &&& 2) = 0 ∨ (u.val &&& 2) = 2) ∧ ((u.val &&& 4) = 0 ∨ (u.val &&& 4) = 4) ∧ ((u.val &&& 8) = 0 ∨ (u.val &&& 8) = 8)
    ∧ ((u.val &&& 16) = 0 ∨ (u.val &&& 16) = 16) ∧ ((u.val &&& 32) = 0 ∨ (u.val &&& 32) = 32) ∧ ((u.val &&& 64) = 0 ∨ (u.val &&& 64) = 64) := by
  decide

theorem padded_low (v : Vec F S1x200x128 .f32) (r : Fin 328) (u : Fin 128) (h : r.val < 200) : padded v (ix2 r u) = v (ix3 0 ⟨r.val, h⟩ u) := by
  unfold padded
  pointwise
  rw [dif_pos h]

theorem padded_high (v : Vec F S1x200x128 .f32) (r : Fin 328) (u : Fin 128) (h : ¬r.val < 200) : padded v (ix2 r u) = mask := by
  unfold padded
  pointwise
  rw [dif_neg h]

/-- The skewed table: lane `u` of row `d` is the table's row `d - u`, or the mask. -/
theorem skew_apply (v : Vec F S1x200x128 .f32) (d : Fin 328) (u : Fin 128) :
    skew v (ix2 d u) = if h : u.val ≤ d.val ∧ d.val - u.val < 200 then v (ix3 0 ⟨d.val - u.val, h.2⟩ u) else mask := by
  obtain ⟨hs, h1, h2, h3, h4, h5, h6, h7⟩ := bits_sum u
  have hd := d.isLt
  have hu := u.isLt
  unfold skew
  rw [shift_apply 64 (by decide) u h7, shift_apply 32 (by decide) u h6, shift_apply 16 (by decide) u h5, shift_apply 8 (by decide) u h4,
    shift_apply 4 (by decide) u h3, shift_apply 2 (by decide) u h2, shift_apply 1 (by decide) u h1]
  generalize u.val &&& 1 = a1 at *
  generalize u.val &&& 2 = a2 at *
  generalize u.val &&& 4 = a3 at *
  generalize u.val &&& 8 = a4 at *
  generalize u.val &&& 16 = a5 at *
  generalize u.val &&& 32 = a6 at *
  generalize u.val &&& 64 = a7 at *
  by_cases h : u.val ≤ d.val ∧ d.val - u.val < 200
  · rw [dif_pos h, padded_low _ _ _ (by dsimp only; omega)]
    congr 2; apply Fin.ext; dsimp only; omega
  · rw [dif_neg h, padded_high _ _ _ (by dsimp only; omega)]

end Cert.KernelIdeal.Loss
end
-- ==== Proof.LossStep.lean ====
/-
The loss kernel's loop, lane by lane, on the extended reals: after `k` trips a lane holds the logarithm of the
diagonal recurrence at diagonal `2 k`, and the captured lane what stood there at its own diagonal.
-/
module

public import proofs.«01_k».proof.Proof.LossBody
public import proofs.«01_k».proof.Proof.Skew
public import proofs.«01_k».proof.Proof.Logs
public import Idealize.ShloMosaic.Lib.Pointwise
public import Idealize.ShloMosaic.Lib.KernelVsHost

@[expose] public section
set_option maxRecDepth 16384
noncomputable section
namespace Cert.KernelIdeal.Loss

open Idealize.ShloMosaic Idealize.ShloMosaic.TcCoe Idealize.ShloMosaic.Tactic
open Cert.KernelIdeal Cert.KernelIdeal.Gen Cert.Logs
open scoped ENNReal

/-! ## The recurrence -/

/-- The diagonal recurrence: cell `(d, u)` from `(d - 1, u)` by `p` and from `(d - 1, u - 1)` by `q`. -/
def diag (p q : ℕ → ℕ → ℝ≥0∞) : ℕ → ℕ → ℝ≥0∞
  | 0, u => if u = 0 then 1 else 0
  | d + 1, u => diag p q d u * p d u + (if u = 0 then 0 else diag p q d (u - 1) * q d (u - 1))

/-- Two diagonals at once, grouped as the kernel groups them. -/
theorem diag_two (p q : ℕ → ℕ → ℝ≥0∞) (d u : ℕ) :
    diag p q (d + 2) u = diag p q d u * (p d u * p (d + 1) u)
      + (if u = 0 then 0 else diag p q d (u - 1)) * ((if u = 0 then 0 else q d (u - 1)) * p (d + 1) u + (if u = 0 then 0 else p d (u - 1)) * (if u = 0 then 0 else q (d + 1) (u - 1)))
      + (if u ≤ 1 then 0 else diag p q d (u - 2)) * ((if u = 0 then 0 else if u - 1 = 0 then 0 else q d (u - 1 - 1)) * (if u = 0 then 0 else q (d + 1) (u - 1))) := by
  show diag p q (d + 1) u * p (d + 1) u + (if u = 0 then 0 else diag p q (d + 1) (u - 1) * q (d + 1) (u - 1)) = _
  show (diag p q d u * p d u + (if u = 0 then 0 else diag p q d (u - 1) * q d (u - 1))) * p (d + 1) u
    + (if u = 0 then 0 else (diag p q d (u - 1) * p d (u - 1) + (if u - 1 = 0 then 0 else diag p q d (u - 1 - 1) * q d (u - 1 - 1))) * q (d + 1) (u - 1)) = _
  rcases u with _ | _ | u
  · simp; ring
  · simp; ring
  · simp only [Nat.add_eq_zero_iff, Nat.add_sub_cancel, one_ne_zero, and_false, if_false, show ¬(u + 1 + 1 ≤ 1) by omega, show u + 1 + 1 - 2 = u by omega]
    ring

/-! ## The vectors of a trip -/

/-- The two-term log-sum-exp of two rows, as it is printed. -/
def vlae (x y : FVec Ideal S1x512 .f32) : FVec Ideal S1x512 .f32 :=
  select (cmpf .one (subf x y) (subf x y)) (addf x y)
    (addf (maximumf x y) (log1p (exp (subf (broadcast S1x512 (Scalar.ofBits (F := Ideal) .f32 0x00000000#32)) (absf (subf x y))))))

theorem vlae_apply (x y : FVec Ideal S1x512 .f32) (l : Fin 512) : vlae x y (ix2 0 l) = lae (x (ix2 0 l)) (y (ix2 0 l)) := by
  unfold vlae lae
  pointwise
  rw [if_neg (by simp)]
  rfl

/-- A row moved one lane up, each batch's first lane masked. -/
def left1 (x : FVec Ideal S1x512 .f32) : FVec Ideal S1x512 .f32 :=
  select k1_pay69 (broadcast S1x512 mask) (dynamicRotate 1 1#32 none x rotates_S1x512_d1)

/-- A row moved two lanes up, each batch's first two lanes masked. -/
def left2 (x : FVec Ideal S1x512 .f32) : FVec Ideal S1x512 .f32 :=
  select k1_pay70 (broadcast S1x512 mask) (dynamicRotate 1 2#32 none x rotates_S1x512_d1)

theorem first_lane : ∀ l : Fin 512, k1_pay69 (ix2 0 l) = BitVec.ofBool (decide (l.val % 128 = 0)) := by
  decide +kernel

theorem two_lanes : ∀ l : Fin 512, k1_pay70 (ix2 0 l) = BitVec.ofBool (decide (l.val % 128 ≤ 1)) := by
  decide +kernel

theorem mask_eq : (mask : Ideal .f32) = (⊥ : EReal) := rfl

/-- Lane `u` of batch `b`. -/
abbrev lane (b : Fin 4) (u : Fin 128) : Fin 512 := ⟨128 * b.val + u.val, by omega⟩

/-- The lane before. -/
abbrev prev (u : Fin 128) (k : ℕ) : Fin 128 := ⟨u.val - k, by omega⟩

theorem left1_apply (x : FVec Ideal S1x512 .f32) (b : Fin 4) (u : Fin 128) :
    left1 x (ix2 0 (lane b u)) = if u.val = 0 then ⊥ else x (ix2 0 (lane b (prev u 1))) := by
  unfold left1
  pointwise
  rw [first_lane]
  have hu := u.isLt
  have hb := b.isLt
  by_cases h : u.val = 0
  · rw [if_pos h, decide_eq_true (by show (128 * b.val + u.val) % 128 = 0; omega)]; rfl
  · rw [if_neg h, decide_eq_false (by show ¬(128 * b.val + u.val) % 128 = 0; omega)]
    show x _ = x _
    congr 2; apply Fin.ext
    show (128 * b.val + u.val + 512 - 1) % 512 = 128 * b.val + (u.val - 1)
    omega

theorem left2_apply (x : FVec Ideal S1x512 .f32) (b : Fin 4) (u : Fin 128) :
    left2 x (ix2 0 (lane b u)) = if u.val ≤ 1 then ⊥ else x (ix2 0 (lane b (prev u 2))) := by
  unfold left2
  pointwise
  rw [two_lanes]
  have hu := u.isLt
  have hb := b.isLt
  by_cases h : u.val ≤ 1
  · rw [if_pos h, decide_eq_true (by show (128 * b.val + u.val) % 128 ≤ 1; omega)]; rfl
  · rw [if_neg h, decide_eq_false (by show ¬(128 * b.val + u.val) % 128 ≤ 1; omega)]
    show x _ = x _
    congr 2; apply Fin.ext
    show (128 * b.val + u.val + 512 - 2) % 512 = 128 * b.val + (u.val - 2)
    omega

/-- The diagonal between a trip's two. -/
def mid (a p0 q0 : FVec Ideal S1x512 .f32) : FVec Ideal S1x512 .f32 := vlae (addf a p0) (addf (left1 a) (left1 q0))

/-- A trip's new row. -/
def next (a p0 p1 q0 q1 : FVec Ideal S1x512 .f32) : FVec Ideal S1x512 .f32 :=
  vlae (vlae (addf a (addf p0 p1)) (addf (left1 a) (vlae (addf (left1 q0) p1) (addf (left1 p0) (left1 q1)))))
    (addf (left2 a) (addf (left1 (left1 q0)) (left1 q1)))

/-- A row kept where the captured diagonal is `d`, zero elsewhere. -/
def pick (ds : Vec Ideal S1x512 .i32) (d : BitVec 32) (x : FVec Ideal S1x512 .f32) : FVec Ideal S1x512 .f32 :=
  select (cmpi .eq (k1_pay71 (F := Ideal) ds) (broadcast S1x512 d)) x (broadcast S1x512 (Scalar.ofBits (F := Ideal) .f32 0x00000000#32))

theorem trip_fst (p0 p1 q0 q1 : Vec Ideal S1x512 .f32) (ds : Vec Ideal S1x512 .i32) (d0 : BitVec 32) (s : FVec Ideal S1x512 .f32 × FVec Ideal S1x512 .f32) :
    (trip p0 p1 q0 q1 ds d0 s).1 = next s.1 p0 p1 q0 q1 := rfl

theorem trip_snd (p0 p1 q0 q1 : Vec Ideal S1x512 .f32) (ds : Vec Ideal S1x512 .i32) (d0 : BitVec 32) (s : FVec Ideal S1x512 .f32 × FVec Ideal S1x512 .f32) :
    (trip p0 p1 q0 q1 ds d0 s).2 = addf (addf (addf s.2 (pick ds d0 p0)) (pick ds (Scalar.addi d0 1#32) (addf (mid s.1 p0 q0) p1)))
      (pick ds (Scalar.addi d0 2#32) (next s.1 p0 p1 q0 q1)) := rfl

/-! ## The lanes -/

/-- A table's entry on diagonal `d`, lane `u` of batch `b`. -/
def at_ (x : Vec Ideal S328x512 .f32) (b : Fin 4) (d u : ℕ) : EReal := x (ix2 ⟨d % 328, Nat.mod_lt _ (by decide)⟩ (lane b ⟨u % 128, Nat.mod_lt _ (by decide)⟩))

theorem row_at (x : Vec Ideal S328x512 .f32) (b : Fin 4) (d : ℕ) (u : Fin 128) : row x d (ix2 0 (lane b u)) = at_ x b d u.val := by
  unfold at_ row
  congr 1; funext a
  match a with
  | 0 => rfl
  | 1 => apply Fin.ext; show 128 * b.val + u.val = 128 * b.val + u.val % 128; rw [Nat.mod_eq_of_lt u.isLt]

/-- The recurrence over two tables. -/
def model (x6 x7 : Vec Ideal S328x512 .f32) (b : Fin 4) : ℕ → ℕ → ℝ≥0∞ := diag (fun d u => ex (at_ x6 b d u)) (fun d u => ex (at_ x7 b d u))

theorem ex_ite (c : Prop) [Decidable c] (x : EReal) : ex (if c then ⊥ else x) = if c then 0 else ex x := by
  split <;> rfl

variable (x6 x7 : Vec Ideal S328x512 .f32) (ds : Vec Ideal S1x512 .i32)

theorem next_lane (a : FVec Ideal S1x512 .f32) (b : Fin 4) (d : ℕ) (h : ∀ u : Fin 128, ex (a (ix2 0 (lane b u))) = model x6 x7 b d u.val) (u : Fin 128) :
    ex (next a (row x6 d) (row x6 (d + 1)) (row x7 d) (row x7 (d + 1)) (ix2 0 (lane b u))) = model x6 x7 b (d + 2) u.val := by
  simp only [model] at h ⊢
  rw [diag_two]
  unfold next
  rw [vlae_apply, exp_lae, vlae_apply, exp_lae, ValueIdx.addf_apply, ValueIdx.addf_apply, ValueIdx.addf_apply, ValueIdx.addf_apply, vlae_apply, ex_add, ex_add, ex_add, ex_add, exp_lae,
    ValueIdx.addf_apply, ValueIdx.addf_apply, ex_add, ex_add, ValueIdx.addf_apply, ex_add]
  simp only [left1_apply, left2_apply, ex_ite, row_at, h]

theorem mid_lane (a : FVec Ideal S1x512 .f32) (b : Fin 4) (d : ℕ) (h : ∀ u : Fin 128, ex (a (ix2 0 (lane b u))) = model x6 x7 b d u.val) (u : Fin 128) :
    ex (mid a (row x6 d) (row x7 d) (ix2 0 (lane b u))) = model x6 x7 b (d + 1) u.val := by
  unfold mid
  rw [vlae_apply, exp_lae, ValueIdx.addf_apply, ValueIdx.addf_apply, ex_add, ex_add]
  simp only [left1_apply, ex_ite, row_at, h]
  show _ = model x6 x7 b d u.val * ex (at_ x6 b d u.val) + (if u.val = 0 then 0 else model x6 x7 b d (u.val - 1) * ex (at_ x7 b d (u.val - 1)))
  by_cases hu : u.val = 0
  · simp [hu]
  · simp [hu]

theorem state_lane (b : Fin 4) : ∀ (k : ℕ) (u : Fin 128), ex ((state x6 x7 ds k).1 (ix2 0 (lane b u))) = model x6 x7 b (2 * k) u.val
  | 0, u => by
    show ex ((k1_pay72 : FVec Ideal S1x512 .f32) (ix2 0 (lane b u))) = if u.val = 0 then 1 else 0
    have hu := u.isLt
    pointwise [k1_pay72]
    rw [first_lane]
    by_cases h : u.val = 0
    · rw [if_pos h, decide_eq_true (by show (128 * b.val + u.val) % 128 = 0; omega)]; exact ex_zero
    · rw [if_neg h, decide_eq_false (by show ¬(128 * b.val + u.val) % 128 = 0; omega)]; exact ex_bot
  | k + 1, u => by
    show ex ((trip (row x6 (2 * k)) (row x6 (2 * k + 1)) (row x7 (2 * k)) (row x7 (2 * k + 1)) ds (BitVec.ofNat 32 (2 * k)) (state x6 x7 ds k)).1 (ix2 0 (lane b u))) = _
    rw [trip_fst]
    exact next_lane x6 x7 _ b (2 * k) (state_lane b k) u

theorem pick_lane (d : BitVec 32) (x : FVec Ideal S1x512 .f32) (b : Fin 4) (u : Fin 128) :
    pick ds d x (ix2 0 (lane b u)) = if ds (ix2 0 (lane b u)) = d then x (ix2 0 (lane b u)) else 0 := by
  unfold pick
  pointwise [k1_pay71]
  simp only [IntOp.cmpi]
  by_cases h : ds (ix2 0 (lane b u)) = d
  · rw [if_pos h, h, BEq.rfl]; rfl
  · rw [if_neg h, show (ds (ix2 0 (lane b u)) == d) = false from by simpa using h]; rfl

/-- What has been captured after `k` trips on a lane whose diagonal is `n`. -/
theorem captured (b : Fin 4) (u : Fin 128) (n : ℕ) (hn : n < 300) (hds : ds (ix2 0 (lane b u)) = BitVec.ofNat 32 n) : ∀ k : ℕ, k ≤ 150 →
    (state x6 x7 ds k).2 (ix2 0 (lane b u))
      = if n < 2 * k then lg (model x6 x7 b n u.val) + at_ x6 b n u.val else if n = 2 * k then lg (model x6 x7 b n u.val) else 0
  | 0, _ => by
    have e : (state x6 x7 ds 0).2 = pick ds 0#32 k1_pay72 := rfl
    rw [e, pick_lane, hds, if_neg (show ¬n < 2 * 0 by omega)]
    by_cases h : n = 0
    · subst h
      rw [if_pos rfl, if_pos rfl]
      exact ex_inj (by rw [ex_lg]; exact state_lane x6 x7 ds b 0 u)
    · rw [if_neg (show ¬n = 2 * 0 by simpa using h), if_neg]
      intro e
      have := congrArg BitVec.toNat e
      rw [BitVec.toNat_ofNat, BitVec.toNat_ofNat, Nat.mod_eq_of_lt (by omega)] at this
      exact h this
  | k + 1, hk => by
    have e : (state x6 x7 ds (k + 1)).2 = (trip (row x6 (2 * k)) (row x6 (2 * k + 1)) (row x7 (2 * k)) (row x7 (2 * k + 1)) ds (BitVec.ofNat 32 (2 * k)) (state x6 x7 ds k)).2 := rfl
    have word : ∀ j : ℕ, j < 400 → (BitVec.ofNat 32 n = BitVec.ofNat 32 j ↔ n = j) := fun j hj => by
      constructor
      · intro e
        have := congrArg BitVec.toNat e
        rwa [BitVec.toNat_ofNat, BitVec.toNat_ofNat, Nat.mod_eq_of_lt (by omega), Nat.mod_eq_of_lt (by omega)] at this
      · rintro rfl; rfl
    have w1 : Scalar.addi (BitVec.ofNat 32 (2 * k)) 1#32 = BitVec.ofNat 32 (2 * k + 1) := (BitVec.ofNat_add (2 * k) 1).symm
    have w2 : Scalar.addi (BitVec.ofNat 32 (2 * k)) 2#32 = BitVec.ofNat 32 (2 * k + 2) := (BitVec.ofNat_add (2 * k) 2).symm
    have a0 := state_lane x6 x7 ds b k
    have a1 : mid (state x6 x7 ds k).1 (row x6 (2 * k)) (row x7 (2 * k)) (ix2 0 (lane b u)) = lg (model x6 x7 b (2 * k + 1) u.val) :=
      ex_inj (by rw [ex_lg]; exact mid_lane x6 x7 _ b (2 * k) a0 u)
    have a2 : next (state x6 x7 ds k).1 (row x6 (2 * k)) (row x6 (2 * k + 1)) (row x7 (2 * k)) (row x7 (2 * k + 1)) (ix2 0 (lane b u)) = lg (model x6 x7 b (2 * k + 2) u.val) :=
      ex_inj (by rw [ex_lg]; exact next_lane x6 x7 _ b (2 * k) a0 u)
    rw [e, trip_snd, ValueIdx.addf_apply, ValueIdx.addf_apply, ValueIdx.addf_apply, pick_lane, pick_lane, pick_lane, ValueIdx.addf_apply, a1, a2, row_at, row_at, w1, w2, hds,
      captured b u n hn hds k (by omega)]
    simp only [word _ (show 2 * k < 400 by omega), word _ (show 2 * k + 1 < 400 by omega), word _ (show 2 * k + 2 < 400 by omega)]
    rcases lt_trichotomy n (2 * k) with h | h | h
    · rw [if_pos h, if_neg (by omega), if_neg (by omega), if_neg (by omega), if_pos (by omega)]; simp
    · subst h
      rw [if_neg (by omega), if_pos rfl, if_pos rfl, if_neg (by omega), if_neg (by omega), if_pos (by omega)]; simp
    · rw [if_neg (by omega), if_neg (by omega), if_neg (by omega)]
      by_cases h1 : n = 2 * k + 1
      · subst h1
        rw [if_pos rfl, if_neg (by omega), if_pos (by omega)]; simp
      · by_cases h2 : n = 2 * k + 2
        · subst h2
          rw [if_neg (by omega), if_pos rfl, if_neg (by omega), if_pos (by omega)]; simp
        · rw [if_neg h1, if_neg h2, if_neg (by omega), if_neg (by omega)]; simp

end Cert.KernelIdeal.Loss
end
-- ==== Proof.LossValue.lean ====
/-
The loss kernel's result as a sum over the batch: each batch's captured lane is the lattice's last cell plus its
blank, and the selection row takes no other.
-/
module

public import proofs.«01_k».proof.Proof.LossStep

@[expose] public section
set_option maxRecDepth 16384
noncomputable section
namespace Cert.KernelIdeal.Loss

open Idealize.ShloMosaic Idealize.ShloMosaic.TcCoe Idealize.ShloMosaic.Tactic
open Cert.KernelIdeal Cert.KernelIdeal.Gen Cert.Logs
open scoped ENNReal

/-! ## The lattice -/

/-- The forward recurrence over the lattice: `B` leaves a cell to the next step, `E` to the next lane. -/
def alpha (B E : ℕ → ℕ → ℝ≥0∞) : ℕ → ℕ → ℝ≥0∞
  | 0, 0 => 1
  | 0, u + 1 => alpha B E 0 u * E 0 u
  | t + 1, 0 => alpha B E t 0 * B t 0
  | t + 1, u + 1 => alpha B E t (u + 1) * B t (u + 1) + alpha B E (t + 1) u * E (t + 1) u
termination_by t u => (t, u)

/-- A lattice's values by diagonal and lane, zero off its two hundred steps. -/
def skewed (f : ℕ → ℕ → ℝ≥0∞) (d u : ℕ) : ℝ≥0∞ := if u ≤ d ∧ d - u < 200 then f (d - u) u else 0

theorem diag_above (p q : ℕ → ℕ → ℝ≥0∞) : ∀ d u : ℕ, d < u → diag p q d u = 0
  | 0, u, h => by show (if u = 0 then 1 else 0) = (0 : ℝ≥0∞); rw [if_neg (by omega)]
  | d + 1, u, h => by
    show diag p q d u * p d u + (if u = 0 then 0 else diag p q d (u - 1) * q d (u - 1)) = 0
    rw [diag_above p q d u (by omega), diag_above p q d (u - 1) (by omega)]
    simp

/-- The lattice along its diagonals. -/
theorem alpha_diag (B E : ℕ → ℕ → ℝ≥0∞) (t u : ℕ) (ht : t < 200) : alpha B E t u = diag (skewed B) (skewed E) (t + u) u := by
  fun_induction alpha B E t u with
  | case1 => rfl
  | case2 u ih =>
    have hE : skewed E u u = E 0 u := by
      unfold skewed
      rw [if_pos (by omega), Nat.sub_self]
    have step : diag (skewed B) (skewed E) (u + 1) (u + 1) = diag (skewed B) (skewed E) u (u + 1) * skewed B u (u + 1) + diag (skewed B) (skewed E) u u * skewed E u u := rfl
    rw [ih ht, Nat.zero_add, Nat.zero_add, step, diag_above _ _ u (u + 1) (by omega), zero_mul, zero_add, hE]
  | case3 t ih =>
    rw [ih (by omega)]
    show _ = diag (skewed B) (skewed E) (t + 0) 0 * skewed B (t + 0) 0 + 0
    have hB : skewed B (t + 0) 0 = B t 0 := by
      unfold skewed
      rw [if_pos (by omega)]; rfl
    rw [hB]
    exact (add_zero _).symm
  | case4 t u ih1 ih2 =>
    rw [ih1 (by omega), ih2 ht, show t + 1 + (u + 1) = t + u + 1 + 1 by omega, show t + (u + 1) = t + u + 1 by omega, show t + 1 + u = t + u + 1 by omega]
    show _ = diag (skewed B) (skewed E) (t + u + 1) (u + 1) * skewed B (t + u + 1) (u + 1) + diag (skewed B) (skewed E) (t + u + 1) u * skewed E (t + u + 1) u
    have hB : skewed B (t + u + 1) (u + 1) = B t (u + 1) := by
      unfold skewed
      rw [if_pos (by omega), show t + u + 1 - (u + 1) = t by omega]
    have hE : skewed E (t + u + 1) u = E (t + 1) u := by
      unfold skewed
      rw [if_pos (by omega), show t + u + 1 - u = t + 1 by omega]
    rw [hB, hE]

/-! ## The tables -/

/-- An output block's entry of batch `b` at step `t`, lane `u`. -/
def entry (x : Vec Ideal S4x200x128 .f32) (b : Fin 4) (t u : ℕ) : EReal :=
  x (ix3 b ⟨t % 200, Nat.mod_lt _ (by decide)⟩ ⟨u % 128, Nat.mod_lt _ (by decide)⟩)

theorem at_wide (x : Vec Ideal S4x200x128 .f32) (b : Fin 4) (d u : ℕ) (hd : d < 328) (hu : u < 128) :
    at_ (wide (batch x)) b d u = if u ≤ d ∧ d - u < 200 then entry x b (d - u) u else ⊥ := by
  have e : at_ (wide (batch x)) b d u = skew (batch x b) (ix2 ⟨d, hd⟩ ⟨u, hu⟩) := by
    unfold at_ wide
    have hb : slabNo (ix2 ⟨d % 328, Nat.mod_lt _ (by decide)⟩ (lane b ⟨u % 128, Nat.mod_lt _ (by decide)⟩)) = b := by
      apply Fin.ext
      show (128 * b.val + u % 128) / 128 = b.val
      omega
    rw [hb]
    congr 1; funext a
    match a with
    | 0 => apply Fin.ext; show d % 328 = d; omega
    | 1 => apply Fin.ext; show (128 * b.val + u % 128) % 128 = u; omega
  rw [e, skew_apply]
  by_cases h : u ≤ d ∧ d - u < 200
  · rw [dif_pos h, if_pos h]
    unfold entry
    show x _ = x _
    congr 1; funext a
    match a with
    | 0 => rfl
    | 1 => apply Fin.ext; show d - u = (d - u) % 200; omega
    | 2 => apply Fin.ext; show u = u % 128; omega
  · rw [dif_neg h, if_neg h]; rfl

theorem diag_congr (p q p' q' : ℕ → ℕ → ℝ≥0∞) : ∀ d u : ℕ, (∀ e < d, ∀ v ≤ u, p e v = p' e v) → (∀ e < d, ∀ v ≤ u, q e v = q' e v) → diag p q d u = diag p' q' d u
  | 0, _, _, _ => rfl
  | d + 1, u, hp, hq => by
    show diag p q d u * p d u + (if u = 0 then 0 else diag p q d (u - 1) * q d (u - 1)) = diag p' q' d u * p' d u + (if u = 0 then 0 else diag p' q' d (u - 1) * q' d (u - 1))
    rw [diag_congr p q p' q' d u (fun e he v hv => hp e (by omega) v hv) (fun e he v hv => hq e (by omega) v hv), hp d (by omega) u le_rfl,
      diag_congr p q p' q' d (u - 1) (fun e he v hv => hp e (by omega) v (by omega)) (fun e he v hv => hq e (by omega) v (by omega)), hq d (by omega) (u - 1) (by omega)]

/-- The lattice of batch `b` over two output blocks. -/
def lattice (x0 x1 : Vec Ideal S4x200x128 .f32) (b : Fin 4) : ℕ → ℕ → ℝ≥0∞ := alpha (fun t u => ex (entry x0 b t u)) (fun t u => ex (entry x1 b t u))

theorem model_lattice (x0 x1 : Vec Ideal S4x200x128 .f32) (b : Fin 4) (t u : ℕ) (ht : t < 200) (hu : u < 128) :
    model (wide (batch x0)) (wide (batch x1)) b (t + u) u = lattice x0 x1 b t u := by
  unfold lattice
  rw [alpha_diag _ _ t u ht]
  apply diag_congr
  · intro e he v hv
    show ex (at_ _ b e v) = _
    rw [at_wide x0 b e v (by omega) (by omega), apply_ite ex, ex_bot]; rfl
  · intro e he v hv
    show ex (at_ _ b e v) = _
    rw [at_wide x1 b e v (by omega) (by omega), apply_ite ex, ex_bot]; rfl

theorem lanes_sum (f : Fin 512 → EReal) : ∑ l, f l = ∑ b : Fin 4, ∑ u : Fin 128, f (lane b u) := by
  rw [← Fintype.sum_prod_type' (fun (b : Fin 4) (u : Fin 128) => f (lane b u))]
  refine (Fintype.sum_equiv (finProdFinEquiv (m := 4) (n := 128)) _ _ ?_).symm
  rintro ⟨b, u⟩
  congr 1; apply Fin.ext
  show 128 * b.val + u.val = u.val + 128 * b.val
  omega

/-- The result: minus a quarter of the batches' last cells, each with its blank. -/
theorem lossOut_eq (x0 x1 : Vec Ideal S4x200x128 .f32) (x2 : Vec Ideal S1x512 .f32) (x3 : Vec Ideal S1x512 .i32) (t : Fin 4 → ℕ) (w : Fin 4 → Fin 128)
    (ht : ∀ b, t b < 200) (hn : ∀ b, t b + (w b).val < 300)
    (h2 : ∀ b u, x2 (ix2 0 (lane b u)) = if u = w b then (1 : EReal) else 0)
    (h3 : ∀ b u, x3 (ix2 0 (lane b u)) = BitVec.ofNat 32 (t b + (w b).val)) :
    lossOut x0 x1 x2 x3 (ix2 0 0) = (∑ b : Fin 4, (lg (lattice x0 x1 b (t b) (w b).val) + entry x0 b (t b) (w b).val)) * (Scalar.ofBits (F := Ideal) .f32 0xBE800000#32 : EReal) := by
  unfold lossOut
  pointwise [k1_pay75]
  congr 1
  rw [lanes_sum]
  refine Finset.sum_congr rfl fun b _ => ?_
  rw [Finset.sum_eq_single (w b)]
  · have hw := (w b).isLt
    have e := captured (wide (batch x0)) (wide (batch x1)) x3 b (w b) _ (hn b) (h3 b (w b)) 150 le_rfl
    rw [h2, if_pos rfl, mul_one]
    refine e.trans ?_
    rw [if_pos (by have := hn b; omega), model_lattice _ _ _ _ _ (ht b) hw, at_wide _ _ _ _ (by have := hn b; omega) hw, if_pos ⟨by omega, by have := ht b; omega⟩, Nat.add_sub_cancel]
  · intro u _ hu
    rw [h2, if_neg hu, mul_zero]
  · intro h; exact absurd (Finset.mem_univ _) h

end Cert.KernelIdeal.Loss
end
-- ==== Proof.HostOut.lean ====
/-
What the loss region is entered with, and the result.
-/
module

public import proofs.«01_k».proof.Proof.HostIn
public import proofs.«01_k».proof.Proof.LossValue

@[expose] public section
set_option maxRecDepth 16384
noncomputable section
namespace Cert.KernelIdeal.Value

open Idealize.ShloMosaic Idealize.ShloMosaic.TcCoe Idealize.ShloMosaic.Tactic
open Idealize.ShloMosaic.StableHlo
open Cert.KernelIdeal Cert.KernelIdeal.Gen Cert.Logs

variable (m : (ℓ : Loc nD τ sig) → Buf (Elt Ideal) ℓ) (c : Dev nD)

/-- The arrays the loss region reads. -/
abbrev blankA : Vec Ideal S4x200x128 .f32 := V11 m (Whole.outs m) c (Proc.devRef .tc main_v11_0)
abbrev emitA : Vec Ideal S4x200x128 .f32 := V11 m (Whole.outs m) c (Proc.devRef .tc main_v11_1)
abbrev selA : Vec Ideal S1x512 .f32 := V11 m (Whole.outs m) c (Proc.devRef .tc main_v24)
abbrev dstA : Vec Ideal S1x512 .i32 := V11 m (Whole.outs m) c (Proc.devRef .tc main_v41)

/-- The host's writes between the regions leave every other array alone. -/
theorem kept_on (out : Outs (F := Ideal)) (r : Ref sig .tc) (h : r ∉ hostOps1_W ++ hostOps1_1_W ++ hostOps1_2_W ++ hostOps1_3_W ++ hostOps1_4_W) :
    V11 m out c (Proc.devRef .tc r) = V6 m out c (Proc.devRef .tc r) := by
  simp only [List.mem_append, not_or] at h
  obtain ⟨⟨⟨⟨h0, h1⟩, h2⟩, h3⟩, h4⟩ := h
  exact (V11_of m out c r h4).trans ((V10_of m out c r h3).trans ((V9_of m out c r h2).trans ((V8_of m out c r h1).trans (V7_of m out c r h0))))

theorem blankA_eq : blankA m c = fun i : S4x200x128.Idx => Joint.logp (V5 m) c (i 0) (i 1) (i 2) 0 := by
  rw [← Joint.blank_arr]
  have e : V6 m (Whole.outs m) c (Proc.devRef .tc main_v11_0) = (Joint.dat (V5 m) c).arrAt 6 cfg0.N := by
    rw [V6, Function.update_of_ne (by decide), Function.update_self]
    exact Pipeline.afterRegion_arr (Joint.dat (V5 m) c) (V5 m c) (by decide) 6
  exact (kept_on m c (Whole.outs m) main_v11_0 (by decide)).trans e

theorem emitA_eq (hV : ∀ (b : Fin 4) (l : Fin 128), (Joint.tgtA (V5 m) c (ix3 b 0 l)).toNat < 1024) :
    emitA m c = fun i : S4x200x128.Idx => Joint.logp (V5 m) c (i 0) (i 1) (i 2) (Joint.symbol (V5 m) c (i 0) (i 2)) := by
  rw [← Joint.emit_arr (V5 m) c hV]
  have e : V6 m (Whole.outs m) c (Proc.devRef .tc main_v11_1) = (Joint.dat (V5 m) c).arrAt 7 cfg0.N := by
    rw [V6, Function.update_self]
    exact Pipeline.afterRegion_arr (Joint.dat (V5 m) c) (V5 m c) (by decide) 7
  exact (kept_on m c (Whole.outs m) main_v11_1 (by decide)).trans e

variable (out : Outs (F := Ideal))
/-- The lanes' numbers. -/
def lanes : IVec S1x512 32 := broadcastInDim S1x512 ![1] bcast_S512_S1x512_1 (iotaInDim S512 32 0)
/-- A word at every lane. -/
def fill {w : ℕ} (k : BitVec w) : IVec S1x512 w := broadcastInDim S1x512 ![] bcast_S_S1x512 (constantI S_ w k)
/-- The lane's number divided by a batch's lanes, as it is printed. -/
def quotV : IVec S1x512 32 :=
  select (andi (cmpi .ne (signi lanes) (broadcastInDim S1x512 ![] bcast_S_S1x512 (signi (constantI S_ 32 128#32)))) (cmpi .ne (Host.remsi lanes (fill 128#32)) (fill 0#32)))
    (subi (Host.divsi lanes (fill 128#32)) (fill 1#32)) (Host.divsi lanes (fill 128#32))
theorem quot_at : ∀ l : Fin 512, quotV (ix2 0 l) = BitVec.ofNat 32 (l.val / 128) := by decide +kernel

theorem quot_eq : V8 m out c (Proc.devRef .tc main_v14) = quotV := by
  unfold_abbrev_sides
  after_results
  rfl

/-- The divisor of the remainder, as it is printed. -/
def modw : IVec S_ 32 := select (cmpi .eq (constantI S_ 32 128#32) (constantI S_ 32 0#32)) (constantI S_ 32 1#32) (constantI S_ 32 128#32)
/-- The lane's number within its batch, as it is printed. -/
def remV : IVec S1x512 32 :=
  select (andi (cmpi .ne (cmpi .slt (Host.remsi lanes (broadcastInDim S1x512 ![] bcast_S_S1x512 modw)) (fill 0#32))
        (broadcastInDim S1x512 ![] bcast_S_S1x512 (cmpi .slt modw (constantI S_ 32 0#32))))
      (cmpi .ne (Host.remsi lanes (broadcastInDim S1x512 ![] bcast_S_S1x512 modw)) (fill 0#32)))
    (addi (Host.remsi lanes (broadcastInDim S1x512 ![] bcast_S_S1x512 modw)) (broadcastInDim S1x512 ![] bcast_S_S1x512 modw))
    (Host.remsi lanes (broadcastInDim S1x512 ![] bcast_S_S1x512 modw))
theorem rem_at : ∀ l : Fin 512, remV (ix2 0 l) = BitVec.ofNat 32 (l.val % 128) := by decide +kernel

theorem rem_eq : V10 m out c (Proc.devRef .tc main_v15) = remV := by
  unfold_abbrev_sides
  after_results
  rfl

/-- The batch a lane's table row is read at, as it is printed. -/
def wrapV : IVec S1x512 32 := select (cmpi .slt quotV (fill 0#32)) (addi quotV (fill 4#32)) quotV
theorem wrap_at : ∀ l : Fin 512, wrapV (ix2 0 l) = BitVec.ofNat 32 (l.val / 128) := by decide +kernel

/-- A length by lane. -/
def perLane (x : IVec S4 32) : IVec S1x512 32 :=
  Host.gather gather_S4_S1x512x1_S1x512_n_0_n_n_0_2_1 x (broadcastInDim S1x512x1 ![0, 1] bcast_S1x512_S1x512x1_0_1 wrapV)

theorem sel_eq : V11 m out c (Proc.devRef .tc main_v24) = uitofp (F := Ideal) .f32 (cmpi .eq remV (perLane (a10 m c))) := by
  have q : V10 m out c (Proc.devRef .tc main_v14) = quotV := by
    rw [← quot_eq m c out]
    unfold_abbrev_sides
    after_results
  have r := rem_eq m c out
  have e : V10 m out c (Proc.devRef .tc main_arg10) = a10 m c := by
    unfold_abbrev_sides
    after_results
    exact (V6_of m out c main_arg10 (by decide)).trans (by unfold_abbrev_sides; after_results)
  show StableHlo.after hostOps1_4 (V10 m out c) _ = _
  generalize V10 m out c = W at q r e
  after_results
  rw [q, r, e]
  rfl

theorem dst_eq : V11 m out c (Proc.devRef .tc main_v41) = addi (subi (perLane (a9 m c)) (fill 1#32)) (perLane (a10 m c)) := by
  have q : V10 m out c (Proc.devRef .tc main_v14) = quotV := by
    rw [← quot_eq m c out]
    unfold_abbrev_sides
    after_results
  have e : V10 m out c (Proc.devRef .tc main_arg10) = a10 m c := by
    unfold_abbrev_sides
    after_results
    exact (V6_of m out c main_arg10 (by decide)).trans (by unfold_abbrev_sides; after_results)
  have e' : V10 m out c (Proc.devRef .tc main_arg9) = a9 m c := by
    unfold_abbrev_sides
    after_results
    exact (V6_of m out c main_arg9 (by decide)).trans (by unfold_abbrev_sides; after_results)
  show StableHlo.after hostOps1_4 (V10 m out c) _ = _
  generalize V10 m out c = W at q e e'
  after_results
  rw [q, e, e']
  rfl

theorem perLane_at (x : IVec S4 32) (b : Fin 4) (u : Fin 128) : perLane x (ix2 0 (Loss.lane b u)) = x (ix1 b) := by
  unfold perLane
  refine (ValueIdx.gather_take_apply (N := 4) (R := 1) (C := 512) (by decide) gather_S4_S1x512x1_S1x512_n_0_n_n_0_2_1_wf x _ (ix2 0 (Loss.lane b u))).trans ?_
  have e : (broadcastInDim S1x512x1 ![0, 1] bcast_S1x512_S1x512x1_0_1 wrapV) (ValueIdx.takeIdx (ix2 0 (Loss.lane b u))) = BitVec.ofNat 32 b.val := by
    refine Eq.trans ?_ ((wrap_at (Loss.lane b u)).trans (congrArg _ (by show (128 * b.val + u.val) / 128 = b.val; omega)))
    rfl
  congr 1
  funext a
  match a with
  | 0 =>
    apply Fin.ext
    show min (BitVec.toInt _).toNat (4 - 1) = b.val
    rw [e]
    clear e
    revert b; decide

/-- The batches' lengths as numbers. -/
def last (b : Fin 4) : ℕ := (a9 m c (ix1 b)).toNat - 1
def stop (b : Fin 4) : Fin 128 := ⟨(a10 m c (ix1 b)).toNat % 128, Nat.mod_lt _ (by decide)⟩

theorem selA_at (h10 : ∀ b, (a10 m c (ix1 b)).toNat < 128) (b : Fin 4) (u : Fin 128) : selA m c (ix2 0 (Loss.lane b u)) = if u = stop m c b then (1 : EReal) else 0 := by
  refine (congrFun (sel_eq m c (Whole.outs m)) _).trans ?_
  show FloatOps.uitofp .f32 (IntOp.cmpi .eq (remV (ix2 0 (Loss.lane b u))) (perLane (a10 m c) (ix2 0 (Loss.lane b u)))) = _
  rw [rem_at, perLane_at, show (Loss.lane b u).val % 128 = u.val from by show (128 * b.val + u.val) % 128 = u.val; omega]
  have hu := u.isLt
  have hb := h10 b
  by_cases h : u = stop m c b
  · rw [if_pos h]
    have e : BitVec.ofNat 32 u.val = a10 m c (ix1 b) := by
      apply BitVec.eq_of_toNat_eq
      rw [BitVec.toNat_ofNat, h]
      show (a10 m c (ix1 b)).toNat % 128 % 2 ^ 32 = _
      omega
    rw [e]
    simp only [IntOp.cmpi, BEq.rfl]
    show (((1#1 : BitVec 1).toNat : ℝ) : EReal) = 1
    simp
  · rw [if_neg h]
    have e : ¬BitVec.ofNat 32 u.val = a10 m c (ix1 b) := fun e => h (by
      apply Fin.ext
      show u.val = (a10 m c (ix1 b)).toNat % 128
      rw [← e, BitVec.toNat_ofNat]; omega)
    simp only [IntOp.cmpi]
    rw [show (BitVec.ofNat 32 u.val == a10 m c (ix1 b)) = false from by simpa using e]
    show (((0#1 : BitVec 1).toNat : ℝ) : EReal) = 0
    simp

theorem dstA_at (h9 : ∀ b, 1 ≤ (a9 m c (ix1 b)).toNat ∧ (a9 m c (ix1 b)).toNat ≤ 200) (h10 : ∀ b, (a10 m c (ix1 b)).toNat < 128) (b : Fin 4) (u : Fin 128) :
    dstA m c (ix2 0 (Loss.lane b u)) = BitVec.ofNat 32 (last m c b + (stop m c b).val) := by
  refine (congrFun (dst_eq m c (Whole.outs m)) _).trans ?_
  show perLane (a9 m c) (ix2 0 (Loss.lane b u)) - 1#32 + perLane (a10 m c) (ix2 0 (Loss.lane b u)) = _
  rw [perLane_at, perLane_at]
  have h1 := h9 b
  have h2 := h10 b
  apply BitVec.eq_of_toNat_eq
  rw [BitVec.toNat_ofNat, BitVec.toNat_add, BitVec.toNat_sub]
  show _ = ((a9 m c (ix1 b)).toNat - 1 + (a10 m c (ix1 b)).toNat % 128) % 2 ^ 32
  have : (1#32).toNat = 1 := rfl
  omega

theorem idx1 : ∀ t : Fin cfg1.N, win1_0.index t = ![0, 0, 0] ∧ win1_1.index t = ![0, 0, 0] ∧ win1_2.index t = ![0, 0] ∧ win1_3.index t = ![0, 0] ∧ win1_4.index t = ![0, 0] := by
  decide +kernel

section entry

variable (V : (c : Dev nD) → Valuation τ sig (Elt Ideal))

theorem blk0 (t : Fin cfg1.N) : Loss.blk V c 0 t = V c (Proc.devRef .tc main_v11_0) := by funext y; blk_ext [Loss.blk, idx1 t]
theorem blk1 (t : Fin cfg1.N) : Loss.blk V c 1 t = V c (Proc.devRef .tc main_v11_1) := by funext y; blk_ext [Loss.blk, idx1 t]
theorem blk2 (t : Fin cfg1.N) : Loss.blk V c 2 t = V c (Proc.devRef .tc main_v24) := by funext y; blk_ext [Loss.blk, idx1 t]
theorem blk3 (t : Fin cfg1.N) : Loss.blk V c 3 t = V c (Proc.devRef .tc main_v41) := by funext y; blk_ext [Loss.blk, idx1 t]

theorem loss_last (t : Fin cfg1.N) : (Loss.dat V c).after 4 t = Loss.lossOut (V c (Proc.devRef .tc main_v11_0)) (V c (Proc.devRef .tc main_v11_1)) (V c (Proc.devRef .tc main_v24)) (V c (Proc.devRef .tc main_v41)) :=
  (Loss.after_4 V c t).trans (by rw [blk0, blk1, blk2, blk3])

/-- What the loss region's one point writes, for any entry. -/
theorem loss_arr (L : Vec Ideal S1x1 .f32) (h : ∀ t, (Loss.dat V c).after 4 t = L) : (Loss.dat V c).arrAt 4 cfg1.N = L := by
  refine (Loss.dat V c).arrAt_eq_of_covers 4 _ (by decide +kernel) fun t hf y => ?_
  blk_simp
  rw [h]
  refine congrArg L ?_
  funext a
  match a with
  | 0 => exact Subsingleton.elim (α := Fin 1) _ _
  | 1 => exact Subsingleton.elim (α := Fin 1) _ _

end entry

/-- The result. -/
theorem result : V13 m (Whole.outs m) c (Proc.devRef .tc main_v43) = fun _ => Loss.lossOut (blankA m c) (emitA m c) (selA m c) (dstA m c) (ix2 0 0) := by
  have e : V12 m (Whole.outs m) c (Proc.devRef .tc main_v42) = (Loss.dat (V11 m (Whole.outs m)) c).arrAt 4 cfg1.N := by
    rw [V12, Function.update_self]
    exact Pipeline.afterRegion_arr (Loss.dat (V11 m (Whole.outs m)) c) (V11 m (Whole.outs m) c) (by decide) 4
  rw [loss_arr c _ _ (loss_last c _)] at e
  show StableHlo.after hostOps2 (V12 m (Whole.outs m) c) _ = _
  generalize V12 m (Whole.outs m) c = W at e
  after_results
  rw [e]
  clear e
  funext i
  refine (congrArg (Loss.lossOut (blankA m c) (emitA m c) (selA m c) (dstA m c)) ?_)
  funext a
  match a with
  | 0 => exact Subsingleton.elim (α := Fin 1) _ _
  | 1 => exact Subsingleton.elim (α := Fin 1) _ _

end Cert.KernelIdeal.Value
end
-- ==== Proof.Spec.lean ====
/-
The loss both programs compute, as one function of the arguments.
-/
module

public import proofs.«01_k».proof.Proof.LossValue

@[expose] public section
noncomputable section
namespace Cert.Spec

open Idealize.ShloMosaic Idealize.ShloMosaic.TcCoe Idealize.ShloMosaic.Tactic
open Cert.Logs Cert.KernelIdeal.Loss
open scoped ENNReal

section cells
variable (x0 : Vec Ideal ⟨3, ![4, 200, 144]⟩ .f32) (x1 : Vec Ideal ⟨3, ![4, 101, 320]⟩ .f32) (x2 : Vec Ideal ⟨2, ![144, 320]⟩ .f32) (x3 : Vec Ideal ⟨1, ![320]⟩ .f32)
  (x4 : Vec Ideal ⟨2, ![320, 320]⟩ .f32) (x5 : Vec Ideal ⟨1, ![320]⟩ .f32) (x6 : Vec Ideal ⟨2, ![320, 1024]⟩ .f32) (x7 : Vec Ideal ⟨1, ![1024]⟩ .f32)

/-- The logit of symbol `v` at a lattice cell. -/
def logit (b : Fin 4) (t : Fin 200) (u : Fin 101) (v : Fin 1024) : EReal :=
  (∑ j : Fin 320, Ideal.tanh (((∑ k : Fin 144, x0 (ix3 b t k) * x2 (ix2 k j)) + x3 (ix1 j)) + ((∑ k : Fin 320, x1 (ix3 b u k) * x4 (ix2 k j)) + x5 (ix1 j))) * x6 (ix2 j v)) + x7 (ix1 v)

/-- Its log-probability. -/
def logp (b : Fin 4) (t : Fin 200) (u : Fin 101) (v : Fin 1024) : EReal :=
  logit x0 x1 x2 x3 x4 x5 x6 x7 b t u v - lse Finset.univ (logit x0 x1 x2 x3 x4 x5 x6 x7 b t u)
end cells

/-- The target symbols, as numbers. -/
def symbols (x8 : Vec Ideal ⟨2, ![4, 100]⟩ .i32) (b : Fin 4) (u : Fin 100) : Fin 1024 := ⟨(x8 (ix2 b u)).toNat % 1024, Nat.mod_lt _ (by decide)⟩

section lattice
variable (P : Fin 4 → Fin 200 → Fin 101 → Fin 1024 → EReal) (tg : Fin 4 → Fin 100 → Fin 1024)

/-- The log-probability of the blank at a cell. -/
def blank (b : Fin 4) (t u : ℕ) : EReal := P b ⟨t % 200, Nat.mod_lt _ (by decide)⟩ ⟨u % 101, Nat.mod_lt _ (by decide)⟩ 0
/-- The log-probability of the next target symbol at a cell. -/
def emit (b : Fin 4) (t u : ℕ) : EReal := P b ⟨t % 200, Nat.mod_lt _ (by decide)⟩ ⟨u % 101, Nat.mod_lt _ (by decide)⟩ (tg b ⟨u % 100, Nat.mod_lt _ (by decide)⟩)
/-- The probability of reaching a cell. -/
def reach (b : Fin 4) (t u : ℕ) : ℝ≥0∞ := alpha (fun t u => ex (blank P b t u)) (fun t u => ex (emit P tg b t u)) t u
theorem reach_zero (b : Fin 4) : reach P tg b 0 0 = 1 := by simp only [reach, alpha]
theorem reach_right (b : Fin 4) (u : ℕ) : reach P tg b 0 (u + 1) = reach P tg b 0 u * ex (emit P tg b 0 u) := by simp only [reach, alpha]
theorem reach_down (b : Fin 4) (t : ℕ) : reach P tg b (t + 1) 0 = reach P tg b t 0 * ex (blank P b t 0) := by simp only [reach, alpha]
theorem reach_next (b : Fin 4) (t u : ℕ) :
    reach P tg b (t + 1) (u + 1) = reach P tg b t (u + 1) * ex (blank P b t (u + 1)) + reach P tg b (t + 1) u * ex (emit P tg b (t + 1) u) := by simp only [reach, alpha]

/-- The log-likelihood of ending at a cell. -/
def score (b : Fin 4) (t u : ℕ) : EReal := lg (reach P tg b t u) + blank P b t u

end lattice

/-- A cell's value reads the rows up to its own and the columns before its own. -/
theorem alpha_congr (B E B' E' : ℕ → ℕ → ℝ≥0∞) : ∀ t u : ℕ, (∀ s < t, ∀ v ≤ u, B s v = B' s v) → (∀ s ≤ t, ∀ v < u, E s v = E' s v) → alpha B E t u = alpha B' E' t u := by
  intro t
  induction t with
  | zero =>
    intro u
    induction u with
    | zero => intro _ _; simp [alpha]
    | succ u ih =>
      intro hB hE
      simp only [alpha]
      rw [ih (fun s hs => absurd hs (by omega)) (fun s hs v hv => hE s hs v (by omega)), hE 0 (le_refl _) u (by omega)]
  | succ t iht =>
    intro u
    induction u with
    | zero =>
      intro hB hE
      simp only [alpha]
      rw [iht 0 (fun s hs => hB s (by omega)) (fun s hs => hE s (by omega)), hB t (by omega) 0 (le_refl _)]
    | succ u ih =>
      intro hB hE
      simp only [alpha]
      rw [iht (u + 1) (fun s hs => hB s (by omega)) (fun s hs => hE s (by omega)), hB t (by omega) (u + 1) (le_refl _),
        ih (fun s hs v hv => hB s hs v (by omega)) (fun s hs v hv => hE s hs v (by omega)), hE (t + 1) (le_refl _) u (by omega)]

theorem alpha_ne_top (B E : ℕ → ℕ → ℝ≥0∞) (hB : ∀ t u, B t u ≤ 1) (hE : ∀ t u, E t u ≤ 1) (t u : ℕ) : alpha B E t u ≠ ⊤ := by
  have fB : ∀ t u, B t u ≠ ⊤ := fun t u h => by have := hB t u; rw [h] at this; exact absurd this (by simp)
  have fE : ∀ t u, E t u ≠ ⊤ := fun t u h => by have := hE t u; rw [h] at this; exact absurd this (by simp)
  induction t generalizing u with
  | zero =>
    induction u with
    | zero => simp [alpha]
    | succ u ih => simp only [alpha]; exact ENNReal.mul_ne_top ih (fE 0 u)
  | succ t iht =>
    induction u with
    | zero => simp only [alpha]; exact ENNReal.mul_ne_top (iht 0) (fB t 0)
    | succ u ih => simp only [alpha]; exact ENNReal.add_ne_top.2 ⟨ENNReal.mul_ne_top (iht _) (fB _ _), ENNReal.mul_ne_top ih (fE _ _)⟩

theorem ne_top_of_exp_le_one {x : EReal} (h : ex x ≤ 1) : x ≠ ⊤ := by
  rintro rfl
  rw [ex_top] at h
  exact absurd h (by simp)

theorem score_ne_top (P : Fin 4 → Fin 200 → Fin 101 → Fin 1024 → EReal) (tg : Fin 4 → Fin 100 → Fin 1024) (hP : ∀ b t u v, ex (P b t u v) ≤ 1) (b : Fin 4) (t u : ℕ) :
    score P tg b t u ≠ ⊤ := by
  unfold score
  refine EReal.add_ne_top (fun h => ?_) (ne_top_of_exp_le_one (hP _ _ _ _))
  rw [lg_eq_top] at h
  exact alpha_ne_top _ _ (fun _ _ => hP _ _ _ _) (fun _ _ => hP _ _ _ _) _ _ h

theorem quarter_neg : (Scalar.ofBits (F := Ideal) .f32 0xBE800000#32 : EReal) = ((-(1/4) : ℝ) : EReal) := by
  show Ideal.ofBits .f32 0xBE800000#32 = _
  simp [Ideal.ofBits, Ideal.ieee, -EReal.coe_mul, -EReal.coe_neg]; norm_num

theorem four : (Scalar.ofBits (F := Ideal) .f32 0x40800000#32 : EReal) = ((4 : ℝ) : EReal) := by
  show Ideal.ofBits .f32 0x40800000#32 = _
  simp [Ideal.ofBits, Ideal.ieee, -EReal.coe_mul, -EReal.coe_neg]; norm_num

/-- The mean of the negated scores is minus a quarter of their sum. -/
theorem mean_eq (x : Fin 4 → EReal) (hx : ∀ b, x b ≠ ⊤) :
    Ideal.div (∑ b, -(x b)) (Scalar.ofBits (F := Ideal) .f32 0x40800000#32 : EReal) = (∑ b, x b) * (Scalar.ofBits (F := Ideal) .f32 0xBE800000#32 : EReal) := by
  have hs : ∑ b, -(x b) = -(∑ b, x b) := by
    simp only [Fin.sum_univ_four]
    rw [EReal.neg_add (Or.inr (hx 3)) (Or.inl ?_), EReal.neg_add (Or.inr (hx 2)) (Or.inl ?_), EReal.neg_add (Or.inr (hx 1)) (Or.inl ?_)]
    · rfl
    all_goals first | exact hx 0 | exact EReal.add_ne_top (hx 0) (hx 1) | exact EReal.add_ne_top (EReal.add_ne_top (hx 0) (hx 1)) (hx 2)
  rw [hs, four, quarter_neg, Ideal.div_coe (by norm_num), mul_comm, mul_comm (∑ b, x b), EReal.coe_neg, EReal.neg_mul, EReal.mul_comm, EReal.neg_mul, EReal.mul_comm]

end Cert.Spec
end
-- ==== Proof.KernelResult.lean ====
/-
The kernel's result, in the terms of the specification.
-/
module

public import proofs.«01_k».proof.Proof.HostOut
public import proofs.«01_k».proof.Proof.Spec

@[expose] public section
set_option maxRecDepth 16384
noncomputable section
namespace Cert.KernelIdeal.Value

open Idealize.ShloMosaic Idealize.ShloMosaic.TcCoe Idealize.ShloMosaic.Tactic
open Cert.KernelIdeal Cert.KernelIdeal.Gen Cert.Logs

variable (m : (ℓ : Loc nD τ sig) → Buf (Elt Ideal) ℓ) (c : Dev nD)

/-- The log-probabilities of the kernel's arguments. -/
abbrev P := Spec.logp (a0 m c) (a1 m c) (a2 m c) (a3 m c) (a4 m c) (a5 m c) (a6 m c) (a7 m c)
abbrev tg := Spec.symbols (a8 m c)

theorem blank_entry (b : Fin 4) (t u : ℕ) (hu : u ≤ 100) : Loss.entry (blankA m c) b t u = Spec.blank (P m c) b t u := by
  have h : u % 128 < 101 := by omega
  unfold Loss.entry Spec.blank
  rw [blankA_eq]
  refine (logp_eq m c b ⟨t % 200, _⟩ ⟨u % 128, _⟩ h 0).trans ?_
  have e : (⟨u % 128, h⟩ : Fin 101) = ⟨u % 101, Nat.mod_lt _ (by decide)⟩ := Fin.ext (by show u % 128 = u % 101; omega)
  rw [e]
  rfl

theorem tgtA_small (h8 : ∀ i, (a8 m c i).toNat < 1024) (b : Fin 4) (l : Fin 128) : (Joint.tgtA (V5 m) c (ix3 b 0 l)).toNat < 1024 := by
  by_cases hl : l.val < 100
  · rw [tgtA_low m c b l hl]; exact h8 _
  · rw [tgtA_high m c b l hl]; decide

theorem emit_entry (h8 : ∀ i, (a8 m c i).toNat < 1024) (b : Fin 4) (t u : ℕ) (hu : u < 100) : Loss.entry (emitA m c) b t u = Spec.emit (P m c) (tg m c) b t u := by
  have h : u % 128 < 101 := by omega
  have h' : u % 128 < 100 := by omega
  unfold Loss.entry Spec.emit
  rw [emitA_eq m c (tgtA_small m c h8)]
  refine (logp_eq m c b ⟨t % 200, _⟩ ⟨u % 128, _⟩ h _).trans ?_
  have e : (⟨u % 128, h⟩ : Fin 101) = ⟨u % 101, Nat.mod_lt _ (by decide)⟩ := Fin.ext (by show u % 128 = u % 101; omega)
  have e' : (⟨u % 128, h'⟩ : Fin 100) = ⟨u % 100, Nat.mod_lt _ (by decide)⟩ := Fin.ext (by show u % 128 = u % 100; omega)
  have s : Joint.symbol (V5 m) c b ⟨u % 128, Nat.mod_lt _ (by decide)⟩ = tg m c b ⟨u % 100, Nat.mod_lt _ (by decide)⟩ := by
    apply Fin.ext
    show (Joint.tgtA (V5 m) c (ix3 b 0 ⟨u % 128, _⟩)).toNat % 1024 = (a8 m c (ix2 b ⟨u % 100, _⟩)).toNat % 1024
    rw [tgtA_low m c b ⟨u % 128, Nat.mod_lt _ (by decide)⟩ h', ← e']
  rw [e]
  exact congrArg (fun v => cellLogp m c b ⟨t % 200, Nat.mod_lt _ (by decide)⟩ ⟨u % 101, Nat.mod_lt _ (by decide)⟩ v) s

/-- What the program leaves, as a number. -/
def total : EReal := (∑ b, Spec.score (P m c) (tg m c) b ((a9 m c (ix1 b)).toNat - 1) (a10 m c (ix1 b)).toNat) * (Scalar.ofBits (F := Ideal) .f32 0xBE800000#32 : EReal)

variable (h8 : ∀ i, (a8 m c i).toNat < 1024) (h9 : ∀ b, 1 ≤ (a9 m c (ix1 b)).toNat ∧ (a9 m c (ix1 b)).toNat ≤ 200) (h10 : ∀ b, (a10 m c (ix1 b)).toNat ≤ 100)
include h10

theorem stop_val (b : Fin 4) : (stop m c b).val = (a10 m c (ix1 b)).toNat := by
  show (a10 m c (ix1 b)).toNat % 128 = _
  have := h10 b
  omega

include h8
theorem score_eq (b : Fin 4) : lg (Loss.lattice (blankA m c) (emitA m c) b (last m c b) (stop m c b).val) + Loss.entry (blankA m c) b (last m c b) (stop m c b).val
    = Spec.score (P m c) (tg m c) b ((a9 m c (ix1 b)).toNat - 1) (a10 m c (ix1 b)).toNat := by
  rw [stop_val m c h10]
  have hb := h10 b
  unfold Spec.score Spec.reach Loss.lattice
  rw [blank_entry m c b _ _ hb]
  refine congrArg (fun z => lg z + _) ?_
  exact Spec.alpha_congr _ _ _ _ _ _ (fun s _ v hv => congrArg ex (blank_entry m c b s v (by omega))) (fun s _ v hv => congrArg ex (emit_entry m c h8 b s v (by omega)))

include h9
theorem value_at : Loss.lossOut (blankA m c) (emitA m c) (selA m c) (dstA m c) (ix2 0 0) = total m c := by
  refine (Loss.lossOut_eq (blankA m c) (emitA m c) (selA m c) (dstA m c) (last m c) (stop m c) (fun b => ?_) (fun b => ?_)
    (selA_at m c fun b => ?_) (dstA_at m c h9 fun b => ?_)).trans ?_
  · have := h9 b; unfold last; omega
  · have := h9 b; have := h10 b; rw [stop_val m c h10]; unfold last; omega
  · have := h10 b; omega
  · have := h10 b; omega
  · unfold total
    refine congrArg (fun z : EReal => z * _) (Finset.sum_congr rfl fun b _ => ?_)
    exact score_eq m c h8 h10 b

theorem value : V13 m (Whole.outs m) c (Proc.devRef .tc main_v43) = fun _ => total m c :=
  (result m c).trans (funext fun _ => value_at m c h8 h9 h10)

end Cert.KernelIdeal.Value
end
-- ==== Proof.RefLogp.lean ====
/-
The reference's log-probabilities.
-/
module

public import proofs.«01_k».proof.Proof.RefRun
public import proofs.«01_k».proof.Proof.Spec
public import Idealize.ShloMosaic.Lib.Pointwise
public import Idealize.ShloMosaic.Lib.StableHlo.ReadAt

@[expose] public section
set_option maxRecDepth 16384
noncomputable section
namespace Cert.ReferenceIdeal.Lattice

open Idealize.ShloMosaic Idealize.ShloMosaic.TcCoe Idealize.ShloMosaic.Tactic
open Idealize.ShloMosaic.StableHlo
open Cert.ReferenceIdeal Cert.ReferenceIdeal.Gen Cert.ReferenceIdeal.Value Cert.Logs

variable (m : (ℓ : Loc nD τ sig) → Buf (Elt Ideal) ℓ) (c : Dev nD)

abbrev a0 : Vec Ideal S4x200x144 .f32 := m ((c.tc : Thread nD τ).loc main_arg0)
abbrev a1 : Vec Ideal S4x101x320 .f32 := m ((c.tc : Thread nD τ).loc main_arg1)
abbrev a2 : Vec Ideal S144x320 .f32 := m ((c.tc : Thread nD τ).loc main_arg2)
abbrev a3 : Vec Ideal S320 .f32 := m ((c.tc : Thread nD τ).loc main_arg3)
abbrev a4 : Vec Ideal S320x320 .f32 := m ((c.tc : Thread nD τ).loc main_arg4)
abbrev a5 : Vec Ideal S320 .f32 := m ((c.tc : Thread nD τ).loc main_arg5)
abbrev a6 : Vec Ideal S320x1024 .f32 := m ((c.tc : Thread nD τ).loc main_arg6)
abbrev a7 : Vec Ideal S1024 .f32 := m ((c.tc : Thread nD τ).loc main_arg7)
abbrev a8 : Vec Ideal S4x100 .i32 := m ((c.tc : Thread nD τ).loc main_arg8)
abbrev a9 : Vec Ideal S4 .i32 := m ((c.tc : Thread nD τ).loc main_arg9)
abbrev a10 : Vec Ideal S4 .i32 := m ((c.tc : Thread nD τ).loc main_arg10)

/-- The contents at each stretch's end. -/
def E0 : Valuation τ sig (Elt Ideal) := after hostOps0 (launchContents m c)
def E1 : Valuation τ sig (Elt Ideal) := after hostOps0_1 (E0 m c)

abbrev logits : FVec Ideal S4x200x101x1024 .f32 := E0 m c (Proc.devRef .tc main_v17)
abbrev logps : FVec Ideal S4x200x101x1024 .f32 := E1 m c (Proc.devRef .tc main_v18)

abbrev P := Spec.logp (a0 m c) (a1 m c) (a2 m c) (a3 m c) (a4 m c) (a5 m c) (a6 m c) (a7 m c)

theorem logits_at (b : Fin 4) (t : Fin 200) (u : Fin 101) (v : Fin 1024) :
    logits m c (ix4 b t u v) = Spec.logit (a0 m c) (a1 m c) (a2 m c) (a3 m c) (a4 m c) (a5 m c) (a6 m c) (a7 m c) b t u v := by
  unfold logits E0 Spec.logit
  after_reads_at

theorem fold_max {ι : Type*} (f : ι → EReal) : ∀ (l : List ι) (a : EReal), a ≤ l.foldl (fun r n => max r (f n)) a ∧ (∀ n ∈ l, f n ≤ l.foldl (fun r n => max r (f n)) a)
    ∧ (l.foldl (fun r n => max r (f n)) a = a ∨ ∃ n ∈ l, l.foldl (fun r n => max r (f n)) a = f n)
  | [], a => ⟨le_refl _, by simp, Or.inl rfl⟩
  | k :: l, a => by
    obtain ⟨h1, h2, h3⟩ := fold_max f l (max a (f k))
    simp only [List.foldl_cons]
    refine ⟨le_trans (le_max_left _ _) h1, ?_, ?_⟩
    · intro n hn
      rcases List.mem_cons.1 hn with rfl | hn
      · exact le_trans (le_max_right _ _) h1
      · exact h2 n hn
    · rcases h3 with h3 | ⟨n, hn, h3⟩
      · rcases max_choice a (f k) with h | h
        · exact Or.inl (h3.trans h)
        · exact Or.inr ⟨k, List.mem_cons_self, h3.trans h⟩
      · exact Or.inr ⟨n, List.mem_cons_of_mem _ hn, h3⟩

theorem bottom : (Ideal.ofBits .f32 0xFF800000#32 : EReal) = ⊥ := by
  simp [Ideal.ofBits, Ideal.ieee]

/-- A maximum over the last axis bounds that axis's entries, and is one of them or where it began. -/
theorem reduce_max {n0 n1 n2 n3 : ℕ} {t u' : Shape} (x : FVec Ideal ⟨4, ![n0, n1, n2, n3]⟩ .f32) (a : FVec Ideal u' .f32) (h : (⟨4, ![n0, n1, n2, n3]⟩ : Shape).ReducesTo [3] t) (hu : 0 < u'.numel) (j : t.Idx)
    (row : Fin n3 → (⟨4, ![n0, n1, n2, n3]⟩ : Shape).Idx) (hrow : ∀ i, h.drop i = j ↔ ∃ k, row k = i) :
    (∀ k, x (row k) ≤ Host.reduce (FloatOps.maximumf (F := Ideal) (φ := .f32)) x a h hu j) ∧
      (Host.reduce (FloatOps.maximumf (F := Ideal) (φ := .f32)) x a h hu j = a (Shape.Idx.first hu) ∨ ∃ k, x (row k) = Host.reduce (FloatOps.maximumf (F := Ideal) (φ := .f32)) x a h hu j) := by
  unfold Host.reduce
  obtain ⟨-, h2, h3⟩ := fold_max (fun n => x ((⟨4, ![n0, n1, n2, n3]⟩ : Shape).rowMajor.symm n)) ((List.finRange (⟨4, ![n0, n1, n2, n3]⟩ : Shape).numel).filter fun n => h.drop ((⟨4, ![n0, n1, n2, n3]⟩ : Shape).rowMajor.symm n) = j) (a (Shape.Idx.first hu))
  refine ⟨fun k => ?_, ?_⟩
  · have := h2 ((⟨4, ![n0, n1, n2, n3]⟩ : Shape).rowMajor (row k)) (by
      rw [List.mem_filter]
      refine ⟨List.mem_finRange _, ?_⟩
      rw [Equiv.symm_apply_apply, decide_eq_true_iff]
      exact (hrow _).2 ⟨k, rfl⟩)
    rw [Equiv.symm_apply_apply] at this
    exact this
  · rcases h3 with h3 | ⟨n, hn, h3⟩
    · exact Or.inl h3
    · rw [List.mem_filter, decide_eq_true_iff] at hn
      obtain ⟨k, hk⟩ := (hrow _).1 hn.2
      exact Or.inr ⟨k, by rw [hk]; exact h3.symm⟩

def lmax (x : FVec Ideal S4x200x101x1024 .f32) : FVec Ideal S4x200x101 .f32 := maximumf (broadcastInDim S4x200x101 ![] bcast_S_S4x200x101 (constant (F := Ideal) S_ .f32 0xFF800000#32)) (Host.reduce FloatOps.maximumf x (constant (F := Ideal) S_ .f32 0xFF800000#32) reducesTo_S4x200x101x1024_S4x200x101_d3 h_S_)
def shift (x : FVec Ideal S4x200x101x1024 .f32) (y : FVec Ideal S4x200x101 .f32) : FVec Ideal S4x200x101x1024 .f32 := subf x (broadcastInDim S4x200x101x1024 ![0, 1, 2, 3] bcast_S4x200x101x1_S4x200x101x1024_0_1_2_3 (broadcastInDim S4x200x101x1 ![0, 1, 2] bcast_S4x200x101_S4x200x101x1_0_1_2 y))
def lsum (x : FVec Ideal S4x200x101x1024 .f32) : FVec Ideal S4x200x101 .f32 := Host.reduceAdd (Host.exp x : FVec Ideal S4x200x101x1024 .f32) (constant (F := Ideal) S_ .f32 0x00000000#32) reducesTo_S4x200x101x1024_S4x200x101_d3 h_S_
def norm (x : FVec Ideal S4x200x101x1024 .f32) (y : FVec Ideal S4x200x101 .f32) : FVec Ideal S4x200x101x1024 .f32 := subf x (broadcastInDim S4x200x101x1024 ![0, 1, 2, 3] bcast_S4x200x101x1_S4x200x101x1024_0_1_2_3 (Host.log (broadcastInDim S4x200x101x1 ![0, 1, 2] bcast_S4x200x101_S4x200x101x1_0_1_2 y) : FVec Ideal S4x200x101x1 .f32))

theorem lmax_eq (r : FVec Ideal S4x200x101 .f32) (j : S4x200x101.Idx) : maximumf (broadcastInDim S4x200x101 ![] bcast_S_S4x200x101 (constant (F := Ideal) S_ .f32 0xFF800000#32)) r j = r j := by
  show max (Ideal.ofBits .f32 0xFF800000#32 : EReal) _ = _
  rw [bottom]
  exact max_eq_right bot_le

/-- The row maximum bounds the row and is one of its entries. -/
theorem lmax_at (x : FVec Ideal S4x200x101x1024 .f32) (b : Fin 4) (t : Fin 200) (u : Fin 101) :
    (∀ v, x (ix4 b t u v) ≤ lmax x (ix3 b t u)) ∧ ∃ v, x (ix4 b t u v) = lmax x (ix3 b t u) := by
  obtain ⟨h2, h3⟩ := reduce_max x (constant (F := Ideal) S_ .f32 0xFF800000#32) reducesTo_S4x200x101x1024_S4x200x101_d3 h_S_ (ix3 b t u) (fun v => ix4 b t u v)
    (Shape.ReducesTo.fiber_r4_a3 reducesTo_S4x200x101x1024_S4x200x101_d3 (ix3 b t u))
  unfold lmax
  rw [lmax_eq]
  refine ⟨h2, ?_⟩
  rcases h3 with h3 | h3
  · refine ⟨0, le_antisymm (h2 0) ?_⟩
    rw [h3]
    exact le_trans (le_of_eq bottom) bot_le
  · exact h3

theorem shift_at (x y) (b : Fin 4) (t : Fin 200) (u : Fin 101) (v : Fin 1024) : shift x y (ix4 b t u v) = x (ix4 b t u v) - y (ix3 b t u) := by
  unfold shift
  pointwise
theorem norm_at (x y) (b : Fin 4) (t : Fin 200) (u : Fin 101) (v : Fin 1024) : norm x y (ix4 b t u v) = x (ix4 b t u v) - Ideal.log (y (ix3 b t u)) := by
  unfold norm
  pointwise
theorem lsum_at (x) (b : Fin 4) (t : Fin 200) (u : Fin 101) : lsum x (ix3 b t u) = ∑ v, Ideal.exp (x (ix4 b t u v)) := by
  unfold lsum
  pointwise

theorem logps_eq : logps m c = norm (shift (logits m c) (lmax (logits m c))) (lsum (shift (logits m c) (lmax (logits m c)))) := by
  unfold logps E1 logits norm lsum shift lmax
  generalize E0 m c = W
  after_reads_simp
  simp -implicitDefEqProofs only [StableHlo.TRef.toBuf, StableHlo.TRef.ofBuf, cast_cast, cast_eq]

theorem logps_at (b : Fin 4) (t : Fin 200) (u : Fin 101) (v : Fin 1024) : logps m c (ix4 b t u v) = P m c b t u v := by
  obtain ⟨hle, j, hj⟩ := lmax_at (logits m c) b t u
  rw [logps_eq, norm_at, lsum_at, shift_at]
  simp only [shift_at]
  rw [log_sum_exp]
  refine (shifted Finset.univ (fun v => logits m c (ix4 b t u v)) (lmax (logits m c) (ix3 b t u)) (fun k _ => hle k) j (Finset.mem_univ _) hj v (Finset.mem_univ _)).trans ?_
  unfold P Spec.logp
  rw [logits_at, show (fun v => logits m c (ix4 b t u v)) = Spec.logit (a0 m c) (a1 m c) (a2 m c) (a3 m c) (a4 m c) (a5 m c) (a6 m c) (a7 m c) b t u from funext (logits_at m c b t u)]

end Cert.ReferenceIdeal.Lattice
end
-- ==== Proof.RefLoop.lean ====
/-
The reference's loop: each trip fills one more cell of the lattice.
-/
module

public import proofs.«01_k».proof.Proof.RefRun
public import proofs.«01_k».proof.Proof.Spec
public import Idealize.ShloMosaic.Lib.Pointwise

@[expose] public section
set_option maxRecDepth 16384
noncomputable section
namespace Cert.ReferenceIdeal.Lattice

open Idealize.ShloMosaic Idealize.ShloMosaic.TcCoe Idealize.ShloMosaic.Tactic
open Idealize.ShloMosaic.StableHlo
open Cert.ReferenceIdeal Cert.ReferenceIdeal.Gen Cert.ReferenceIdeal.Value Cert.Logs Cert.KernelIdeal.Loss
open scoped ENNReal

/-- Where a slice of one row starts. -/
theorem start_at (W : IVec S_ 32) (n : ℕ) (hn : n < 20200) (hW : W = fun _ => BitVec.ofNat 32 n) (j : S_.Idx) :
    ((select (cmpi .slt W (constantI S_ 32 0#32)) (addi (id W) (constantI S_ 32 20200#32)) W : IVec S_ 32) j).toInt = n := by
  subst hW
  show (Scalar.select (IntOp.cmpi .slt (BitVec.ofNat 32 n) 0#32) (BitVec.ofNat 32 n + 20200#32) (BitVec.ofNat 32 n)).toInt = n
  have e : (BitVec.ofNat 32 n).toInt = n := by
    rw [BitVec.toInt_eq_toNat_of_lt (by rw [BitVec.toNat_ofNat]; omega), BitVec.toNat_ofNat]; omega
  have h : (BitVec.ofNat 32 n).slt 0#32 = false := by
    simp only [BitVec.slt, e]; simp
  simp only [IntOp.cmpi, h]
  exact e

/-- One row read. -/
theorem row_at (x : Vec Ideal S20200x4 .f32) (n : ℕ) (hn : n < 20200) (start : Fin 2 → Int) (h0 : start 0 = n) (h1 : start 1 = 0) (b : Fin 4) :
    Host.dynamicSlice S1x4 x start sliceFits_S20200x4_S1x4 (ix2 0 b) = x (ix2 ⟨n, hn⟩ b) := by
  have c0 : ∀ h, Host.clampedStart S20200x4 S1x4 h start 0 = n := fun h => Host.clampedStart_of_le h start 0 n h0 (by show n + 1 ≤ 20200; omega)
  have c1 : ∀ h, Host.clampedStart S20200x4 S1x4 h start 1 = 0 := fun h => Host.clampedStart_of_le h start 1 0 (by simpa using h1) (by show 0 + 4 ≤ 4; omega)
  rw [Host.dynamicSlice_apply]
  refine congrArg x ?_
  funext a
  match a with
  | 0 =>
    apply Fin.ext
    show Host.clampedStart S20200x4 S1x4 _ start 0 + 0 = n
    rw [c0]; rfl
  | 1 =>
    apply Fin.ext
    show Host.clampedStart S20200x4 S1x4 _ start 1 + b.val = b.val
    rw [c1]; omega

/-- One row written. -/
theorem put_at (x : Vec Ideal S20200x4 .f32) (y : Vec Ideal S1x4 .f32) (n : ℕ) (hn : n < 20200) (start : Fin 2 → Int) (h0 : start 0 = n) (h1 : start 1 = 0) (i : Fin 20200) (b : Fin 4) :
    Host.dynamicUpdateSlice x y start updateFits_S20200x4_S1x4 (ix2 i b) = if i.val = n then y (ix2 0 b) else x (ix2 i b) := by
  rw [Host.dynamicUpdateSlice_apply]
  have c0 : ∀ h, Host.clampedStart S20200x4 S1x4 h start 0 = n := fun h => Host.clampedStart_of_le h start 0 n h0 (by show n + 1 ≤ 20200; omega)
  have c1 : ∀ h, Host.clampedStart S20200x4 S1x4 h start 1 = 0 := fun h => Host.clampedStart_of_le h start 1 0 (by simpa using h1) (by show 0 + 4 ≤ 4; omega)
  by_cases hi : i.val = n
  · rw [if_pos hi, dif_pos]
    · refine congrArg y ?_
      funext a
      match a with
      | 0 => exact Subsingleton.elim (α := Fin 1) _ _
      | 1 =>
        apply Fin.ext
        show b.val - Host.clampedStart S20200x4 S1x4 _ start 1 = b.val
        rw [c1]; rfl
    · intro a
      match a with
      | 0 =>
        show Host.clampedStart S20200x4 S1x4 _ start 0 ≤ i.val ∧ i.val < Host.clampedStart S20200x4 S1x4 _ start 0 + 1
        rw [c0]; omega
      | 1 =>
        show Host.clampedStart S20200x4 S1x4 _ start 1 ≤ b.val ∧ b.val < Host.clampedStart S20200x4 S1x4 _ start 1 + 4
        rw [c1]; have := b.isLt; omega
  · rw [if_neg hi, dif_neg]
    intro h
    have := h 0
    have e : Host.clampedStart S20200x4 S1x4 updateFits_S20200x4_S1x4.1 start 0 ≤ i.val ∧ i.val < Host.clampedStart S20200x4 S1x4 updateFits_S20200x4_S1x4.1 start 0 + 1 := this
    rw [c0] at e
    omega

variable (V : Valuation τ sig (Elt Ideal))

abbrev tabB : Vec Ideal S20200x4 .f32 := V (Proc.devRef .tc main_v39_0)
abbrev tabE : Vec Ideal S20200x4 .f32 := V (Proc.devRef .tc main_v39_1)
abbrev cell : IVec S_ 32 := V (Proc.devRef .tc main_v39_3)
abbrev tabA : Vec Ideal S20200x4 .f32 := V (Proc.devRef .tc main_v39_4)

theorem less (n k : ℕ) (hk : k ≤ n) (hn : n < 20200) (h : cell V = fun _ => BitVec.ofNat 32 n) :
    (subi (cell V) (constantI S_ 32 (BitVec.ofNat 32 k)) : IVec S_ 32) = fun _ => BitVec.ofNat 32 (n - k) := by
  rw [h]
  funext j
  show BitVec.ofNat 32 n - BitVec.ofNat 32 k = _
  apply BitVec.eq_of_toNat_eq
  rw [BitVec.toNat_sub]
  simp only [BitVec.toNat_ofNat]
  omega

theorem above_at (n : ℕ) (h1 : 101 ≤ n) (hn : n < 20200) (h : cell V = fun _ => BitVec.ofNat 32 n) (b : Fin 4) :
    (res_main_while0b_v101 V : Vec Ideal S1x4 .f32) (ix2 0 b) = tabA V (ix2 ⟨n - 101, by omega⟩ b) + tabB V (ix2 ⟨n - 101, by omega⟩ b) := by
  unfold res_main_while0b_v101
  refine (congrArg₂ (fun x y : EReal => x + y) (row_at (tabA V) (n - 101) (by omega) _ ?_ rfl b) (row_at (tabB V) (n - 101) (by omega) _ ?_ rfl b))
  · exact start_at _ (n - 101) (by omega) (less V n 101 h1 hn h) _
  · exact start_at _ (n - 101) (by omega) (less V n 101 h1 hn h) _

theorem left_at (n : ℕ) (h1 : 101 ≤ n) (hn : n < 20200) (h : cell V = fun _ => BitVec.ofNat 32 n) (b : Fin 4) :
    (res_main_while0b_v114 V : Vec Ideal S1x4 .f32) (ix2 0 b) = tabA V (ix2 ⟨n - 1, by omega⟩ b) + tabE V (ix2 ⟨n - 1, by omega⟩ b) := by
  unfold res_main_while0b_v114
  refine (congrArg₂ (fun x y : EReal => x + y) (row_at (tabA V) (n - 1) (by omega) _ ?_ rfl b) (row_at (tabE V) (n - 1) (by omega) _ ?_ rfl b))
  · exact start_at _ (n - 1) (by omega) (less V n 1 (by omega) hn h) _
  · exact start_at _ (n - 1) (by omega) (less V n 1 (by omega) hn h) _

/-- A trip's new table. -/
theorem trip_at (n : ℕ) (h1 : 101 ≤ n) (hn : n < 20200) (h : cell V = fun _ => BitVec.ofNat 32 n) (i : Fin 20200) (b : Fin 4) :
    tabA (STEP V) (ix2 i b) = if i.val = n then
        lae (tabA V (ix2 ⟨n - 101, by omega⟩ b) + tabB V (ix2 ⟨n - 101, by omega⟩ b)) (tabA V (ix2 ⟨n - 1, by omega⟩ b) + tabE V (ix2 ⟨n - 1, by omega⟩ b))
      else tabA V (ix2 i b) := by
  refine (congrFun (STEP_main_v39_4 V) _).trans ?_
  unfold step_main_v39_4
  refine (put_at (tabA V) _ n hn _ (start_at _ n hn h _) rfl i b).trans ?_
  by_cases hi : i.val = n
  · rw [if_pos hi, if_pos hi, ← above_at V n h1 hn h b, ← left_at V n h1 hn h b]
    generalize hx : (res_main_while0b_v101 V : FVec Ideal S1x4 .f32) = x
    generalize hy : (res_main_while0b_v114 V : FVec Ideal S1x4 .f32) = y
    have hd : (res_main_while0b_v116 V : Vec Ideal S1x4 .f32) = (subf (x : FVec Ideal S1x4 .f32) (y : FVec Ideal S1x4 .f32) : FVec Ideal S1x4 .f32) := by unfold res_main_while0b_v116; rw [hx, hy]
    rw [hd]
    pointwise
    unfold lae
    rw [if_neg (not_not_intro rfl), zero_sub]
    rfl
  · rw [if_neg hi, if_neg hi]

section invariant
variable (P : Fin 4 → Fin 200 → Fin 101 → Fin 1024 → EReal) (tg : Fin 4 → Fin 100 → Fin 1024)

/-- What a row of the emission table holds: nothing is emitted from the last column. -/
def emitRow (b : Fin 4) (n : ℕ) : EReal := if n % 101 < 100 then Spec.emit P tg b (n / 101) (n % 101) else ⊥

/-- The lattice's recurrence, read from the tables. -/
theorem cell_eq (b : Fin 4) (n : ℕ) (h1 : 101 ≤ n) :
    lae (lg (Spec.reach P tg b ((n - 101) / 101) ((n - 101) % 101)) + Spec.blank P b ((n - 101) / 101) ((n - 101) % 101))
        (lg (Spec.reach P tg b ((n - 1) / 101) ((n - 1) % 101)) + emitRow P tg b (n - 1))
      = lg (Spec.reach P tg b (n / 101) (n % 101)) := by
  apply ex_inj
  rw [exp_lae, ex_add, ex_add, ex_lg, ex_lg, ex_lg]
  obtain ⟨t, ht⟩ : ∃ t, n / 101 = t + 1 := ⟨n / 101 - 1, by omega⟩
  have e1 : (n - 101) / 101 = t := by omega
  have e2 : (n - 101) % 101 = n % 101 := by omega
  rw [e1, e2, ht]
  rcases hu : n % 101 with _ | u
  · have : (n - 1) % 101 = 100 := by omega
    unfold emitRow
    rw [this, if_neg (by decide), ex_bot, mul_zero, add_zero, Spec.reach_down]
  · have f1 : (n - 1) / 101 = t + 1 := by omega
    have f2 : (n - 1) % 101 = u := by omega
    unfold emitRow
    rw [f1, f2, if_pos (by omega), Spec.reach_next]

/-- The tables at the loop's entry, -/
structure Entered : Prop where
  blanks : ∀ (i : Fin 20200) (b : Fin 4), tabB V (ix2 i b) = Spec.blank P b (i.val / 101) (i.val % 101)
  emits : ∀ (i : Fin 20200) (b : Fin 4), tabE V (ix2 i b) = emitRow P tg b i.val
  at_ : cell V = fun _ => BitVec.ofNat 32 101
  first : ∀ (i : Fin 20200) (b : Fin 4), i.val < 101 → tabA V (ix2 i b) = lg (Spec.reach P tg b 0 i.val)

/-- and after `k` trips: the cells before the next one are filled. -/
theorem filled (h : Entered V P tg) : ∀ k, k ≤ 20099 → tabB (STEP^[k] V) = tabB V ∧ tabE (STEP^[k] V) = tabE V ∧ cell (STEP^[k] V) = (fun _ => BitVec.ofNat 32 (101 + k))
    ∧ ∀ (i : Fin 20200) (b : Fin 4), i.val < 101 + k → tabA (STEP^[k] V) (ix2 i b) = lg (Spec.reach P tg b (i.val / 101) (i.val % 101)) := by
  intro k
  induction k with
  | zero =>
    intro _
    refine ⟨rfl, rfl, h.at_, fun i b hi => (h.first i b hi).trans ?_⟩
    rw [Nat.div_eq_of_lt hi, Nat.mod_eq_of_lt hi]
  | succ k ih =>
    intro hk
    obtain ⟨hB, hE, hn, hA⟩ := ih (by omega)
    rw [Function.iterate_succ_apply']
    generalize hW : STEP^[k] V = W at hB hE hn hA
    refine ⟨(STEP_main_v39_0 W).trans hB, (STEP_main_v39_1 W).trans hE, (STEP_main_v39_3 W).trans ?_, fun i b hi => ?_⟩
    · unfold step_main_v39_3
      refine (congrArg (fun z : IVec S_ 32 => (addi z (constantI S_ 32 1#32) : IVec S_ 32)) hn).trans ?_
      funext j
      show BitVec.ofNat 32 (101 + k) + 1#32 = BitVec.ofNat 32 (101 + (k + 1))
      rw [← add_assoc, BitVec.ofNat_add (101 + k) 1]
    · rw [trip_at W (101 + k) (by omega) (by omega) hn i b]
      by_cases e : i.val = 101 + k
      · rw [if_pos e, hB, hE, h.blanks, h.emits, hA _ b (by show 101 + k - 101 < _; omega), hA _ b (by show 101 + k - 1 < _; omega), e]
        exact cell_eq P tg b (101 + k) (by omega)
      · rw [if_neg e]
        exact hA i b (by omega)

end invariant

end Cert.ReferenceIdeal.Lattice
end
-- ==== Proof.RefGather.lean ====
/-
Three operations of the reference read at an index: the pick along the last axis, the pick of one entry
of a rank-three table per batch item, and the running sum along a row.
-/
module

public import Idealize.ShloMosaic.Lib.Pointwise
public import Idealize.ShloMosaic.Lib.ValueIdx

@[expose] public section
noncomputable section
namespace Cert.ReferenceIdeal.Lattice

open Idealize.ShloMosaic

theorem low_mem : ∀ a : Fin 4, a.val < 3 → a ∈ ([0, 1, 2] : List (Fin 4)) := by decide
theorem last_mem : ∀ a : Fin 4, a.val = 3 → a ∈ ([3] : List (Fin 4)) := by decide
theorem last_not_mem : ∀ a : Fin 4, a.val = 3 → a ∉ ([0, 1, 2] : List (Fin 4)) := by decide
theorem all_mem : ∀ a : Fin 3, a ∈ ([0, 1, 2] : List (Fin 3)) := by decide

section Pick
variable {α : Type} {B T U V : ℕ}

/-- The shape facts of the pick along the last axis. -/
abbrev pickDims (wf : GatherDims.WF ⟨4, ![B, T, U, V]⟩ ⟨5, ![B, T, U, 1, 1]⟩ ⟨4, ![B, T, U, 1]⟩ [] [3] [0, 1, 2] [3] [0, 1, 2] 4 ![1, 1, 1, 1]) :
    GatherDims ⟨4, ![B, T, U, V]⟩ ⟨5, ![B, T, U, 1, 1]⟩ ⟨4, ![B, T, U, 1]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

theorem pick_at (wf : GatherDims.WF ⟨4, ![B, T, U, V]⟩ ⟨5, ![B, T, U, 1, 1]⟩ ⟨4, ![B, T, U, 1]⟩ [] [3] [0, 1, 2] [3] [0, 1, 2] 4 ![1, 1, 1, 1])
    (x : (⟨4, ![B, T, U, V]⟩ : Shape).Idx → α) (idx : IVec ⟨5, ![B, T, U, 1, 1]⟩ 32) (b : Fin B) (t : Fin T) (u : Fin U) (v : Fin V)
    (hv : (idx (ix5 b t u 0 0)).toInt.toNat = v.val) :
    Host.gather (pickDims wf) x idx (ix4 b t u 0) = x (ix4 b t u v) := by
  unfold Host.gather
  congr 1
  funext a
  refine Fin.ext ?_
  show (pickDims wf).start (ix4 b t u 0) idx a + (pickDims wf).batchCoord (ix4 b t u 0) a
      + (pickDims wf).offCoord (ix4 b t u 0) a = _
  have hoff : (pickDims wf).offCoord (ix4 b t u 0) a = 0 := by
    refine GatherDims.offCoord_eq_zero _ _ _ (fun h => ?_)
    have := (GatherDims.mem_sKept _ _).mp h
    match a with
    | ⟨0, h⟩ => exact this.2 (low_mem ⟨0, h⟩ (show 0 < 3 by decide))
    | ⟨1, h⟩ => exact this.2 (low_mem ⟨1, h⟩ (show 1 < 3 by decide))
    | ⟨2, h⟩ => exact this.2 (low_mem ⟨2, h⟩ (show 2 < 3 by decide))
    | ⟨3, h⟩ => exact this.1 (last_mem ⟨3, h⟩ rfl)
  rw [hoff, Nat.add_zero]
  match a with
  | ⟨0, h⟩ =>
    rw [GatherDims.start_batching _ _ _ _ (low_mem ⟨0, h⟩ (show 0 < 3 by decide)), Nat.zero_add]
    unfold GatherDims.batchCoord
    rw [dif_pos (low_mem ⟨0, h⟩ (show 0 < 3 by decide))]
    rfl
  | ⟨1, h⟩ =>
    rw [GatherDims.start_batching _ _ _ _ (low_mem ⟨1, h⟩ (show 1 < 3 by decide)), Nat.zero_add]
    unfold GatherDims.batchCoord
    rw [dif_pos (low_mem ⟨1, h⟩ (show 1 < 3 by decide))]
    rfl
  | ⟨2, h⟩ =>
    rw [GatherDims.start_batching _ _ _ _ (low_mem ⟨2, h⟩ (show 2 < 3 by decide)), Nat.zero_add]
    unfold GatherDims.batchCoord
    rw [dif_pos (low_mem ⟨2, h⟩ (show 2 < 3 by decide))]
    rfl
  | ⟨3, h⟩ =>
    rw [GatherDims.batchCoord_eq_zero _ _ _ (last_not_mem ⟨3, h⟩ rfl), Nat.add_zero]
    unfold GatherDims.start
    rw [dif_pos (last_mem ⟨3, h⟩ rfl)]
    have hsi : (pickDims wf).siIdx (ix4 b t u 0) ⟨List.idxOf (⟨3, h⟩ : Fin 4) (pickDims wf).startIndexMap,
        List.idxOf_lt_length_iff.2 (last_mem ⟨3, h⟩ rfl)⟩ = ix5 b t u 0 0 := by
      funext k; refine Fin.ext ?_
      match k with
      | ⟨0, _⟩ => rfl
      | ⟨1, _⟩ => rfl
      | ⟨2, _⟩ => rfl
      | ⟨3, _⟩ => rfl
      | ⟨4, _⟩ => rfl
    rw [hsi, hv]
    show min v.val (V - 1) = v.val
    omega

end Pick

section Entry
variable {α : Type} {A B C N : ℕ}

/-- The shape facts of the pick of one entry per batch item. -/
abbrev entryDims (wf : GatherDims.WF ⟨3, ![A, B, C]⟩ ⟨2, ![N, 3]⟩ ⟨1, ![N]⟩ [] [0, 1, 2] [] [0, 1, 2] [] 1 ![1, 1, 1]) :
    GatherDims ⟨3, ![A, B, C]⟩ ⟨2, ![N, 3]⟩ ⟨1, ![N]⟩ where
  offsetDims := []
  collapsedSliceDims := [0, 1, 2]
  operandBatchingDims := []
  startIndicesBatchingDims := []
  startIndexMap := [0, 1, 2]
  indexVectorDim := 1
  sliceSizes := ![1, 1, 1]
  wf := wf

theorem entry_at (wf : GatherDims.WF ⟨3, ![A, B, C]⟩ ⟨2, ![N, 3]⟩ ⟨1, ![N]⟩ [] [0, 1, 2] [] [0, 1, 2] [] 1 ![1, 1, 1])
    (x : (⟨3, ![A, B, C]⟩ : Shape).Idx → α) (idx : IVec ⟨2, ![N, 3]⟩ 32) (n : Fin N) (i : Fin A) (j : Fin B) (k : Fin C)
    (hi : (idx (ix2 n 0)).toInt.toNat = i.val) (hj : (idx (ix2 n 1)).toInt.toNat = j.val) (hk : (idx (ix2 n 2)).toInt.toNat = k.val) :
    Host.gather (entryDims wf) x idx (ix1 n) = x (ix3 i j k) := by
  unfold Host.gather
  congr 1
  funext a
  refine Fin.ext ?_
  show (entryDims wf).start (ix1 n) idx a + (entryDims wf).batchCoord (ix1 n) a
      + (entryDims wf).offCoord (ix1 n) a = _
  have hoff : (entryDims wf).offCoord (ix1 n) a = 0 := by
    refine GatherDims.offCoord_eq_zero _ _ _ (fun h => ?_)
    have := (GatherDims.mem_sKept _ _).mp h
    match a with
    | ⟨0, _⟩ => exact this.1 (all_mem _)
    | ⟨1, _⟩ => exact this.1 (all_mem _)
    | ⟨2, _⟩ => exact this.1 (all_mem _)
  rw [hoff, Nat.add_zero, GatherDims.batchCoord_eq_zero _ _ _ (by simp), Nat.add_zero]
  have hmem : a ∈ (entryDims wf).startIndexMap := all_mem a
  unfold GatherDims.start
  rw [dif_pos hmem]
  have hsi : (entryDims wf).siIdx (ix1 n) ⟨List.idxOf a (entryDims wf).startIndexMap, List.idxOf_lt_length_iff.2 hmem⟩ = ix2 n a := by
    funext q; refine Fin.ext ?_
    match a, q with
    | ⟨0, _⟩, ⟨0, _⟩ => rfl
    | ⟨1, _⟩, ⟨0, _⟩ => rfl
    | ⟨2, _⟩, ⟨0, _⟩ => rfl
    | ⟨0, _⟩, ⟨1, _⟩ => rfl
    | ⟨1, _⟩, ⟨1, _⟩ => rfl
    | ⟨2, _⟩, ⟨1, _⟩ => rfl
  rw [hsi]
  match a with
  | ⟨0, _⟩ =>
    show min (idx (ix2 n 0)).toInt.toNat (A - 1) = i.val
    rw [hi]; omega
  | ⟨1, _⟩ =>
    show min (idx (ix2 n 1)).toInt.toNat (B - 1) = j.val
    rw [hj]; omega
  | ⟨2, _⟩ =>
    show min (idx (ix2 n 2)).toInt.toNat (C - 1) = k.val
    rw [hk]; omega

end Entry

section RunningSum

theorem fold_sum {ι : Type*} (g : ι → EReal) : ∀ (l : List ι) (a : EReal), l.foldl (fun r n => r + g n) a = a + (l.map g).sum
  | [], a => by simp
  | k :: l, a => by rw [List.foldl_cons, fold_sum g l, List.map_cons, List.sum_cons, add_assoc]

/-- The running sum along a row, as a sum over the places up to `u`. -/
theorem running_at {B N : ℕ} (x : FVec Ideal ⟨2, ![B, N + 1]⟩ .f32) {w : Shape} (init : w.Idx → Ideal .f32) (hu : 0 < w.numel)
    (h0 : init (Shape.Idx.first hu) = (0 : EReal))
    (h : (⟨2, ![B, N + 1]⟩ : Shape).ReduceWindows (![1, N + 1] : Fin 2 → ℕ) ![1, 1] ![0, N] ![0, 0] ⟨2, ![B, N + 1]⟩) (b : Fin B) (u : Fin (N + 1)) :
    Host.reduceWindowAdd (![1, N + 1] : Fin 2 → ℕ) ![1, 1] ![0, N] ![0, 0] x init h hu (ix2 b u)
      = ∑ k ∈ Finset.range (u.val + 1), (if hk : k < N + 1 then (x (ix2 b ⟨k, hk⟩) : EReal) else 0) := by
  show Ideal.hostReduceWindowAdd _ _ _ _ h x (init (Shape.Idx.first hu)) (ix2 b u) = _
  unfold Ideal.hostReduceWindowAdd Host.reduceWindow
  simp only [h0]
  rw [fold_sum, zero_add, ← List.ofFn_eq_map, List.sum_ofFn]
  rw [← Equiv.sum_comp (⟨2, ![1, N + 1]⟩ : Shape).rowMajor]
  simp only [Equiv.symm_apply_apply]
  rw [sum_idx2, Fin.sum_univ_one]
  obtain ⟨F, hF⟩ : ∃ F : ℕ → EReal, F = fun k => if N ≤ u.val + k then (if hk : u.val + k - N < N + 1 then (x (ix2 b ⟨u.val + k - N, hk⟩) : EReal) else 0) else 0 := ⟨_, rfl⟩
  have key : ∀ k : Fin (N + 1), (if hin : ∀ a : Fin 2, (![0, N] : Fin 2 → ℕ) a ≤ (ix2 b u a).val * (![1, 1] : Fin 2 → ℕ) a + (ix2 (0 : Fin 1) k a).val
      ∧ (ix2 b u a).val * (![1, 1] : Fin 2 → ℕ) a + (ix2 (0 : Fin 1) k a).val - (![0, N] : Fin 2 → ℕ) a < (![B, N + 1] : Fin 2 → ℕ) a
      then x (fun a => ⟨(ix2 b u a).val * (![1, 1] : Fin 2 → ℕ) a + (ix2 (0 : Fin 1) k a).val - (![0, N] : Fin 2 → ℕ) a, (hin a).2⟩) else (0 : EReal))
      = F k.val := by
    intro k
    subst hF
    by_cases hN : N ≤ u.val + k.val
    · have hlt : u.val + k.val - N < N + 1 := by omega
      rw [dif_pos (by
        intro a
        match a with
        | ⟨0, _⟩ =>
          show 0 ≤ b.val * 1 + 0 ∧ b.val * 1 + 0 - 0 < B
          omega
        | ⟨1, _⟩ =>
          show N ≤ u.val * 1 + k.val ∧ u.val * 1 + k.val - N < N + 1
          omega)]
      simp only [if_pos hN, dif_pos hlt]
      congr 1
      funext a
      refine Fin.ext ?_
      match a with
      | ⟨0, _⟩ =>
        show b.val * 1 + 0 - 0 = b.val
        omega
      | ⟨1, _⟩ =>
        show u.val * 1 + k.val - N = u.val + k.val - N
        omega
    · simp only [if_neg hN]
      refine dif_neg (fun h => hN ?_)
      have : N ≤ u.val * 1 + k.val := (h 1).1
      omega
  refine (Finset.sum_congr rfl fun k _ => key k).trans ((Fin.sum_univ_eq_sum_range F (N + 1)).trans ?_)
  have split : ∑ k ∈ Finset.range (N + 1), F k = ∑ k ∈ Finset.range ((N - u.val) + (u.val + 1)), F k :=
    congrArg (fun n => ∑ k ∈ Finset.range n, F k) (by omega)
  rw [split, Finset.sum_range_add]
  subst hF
  rw [Finset.sum_eq_zero (fun k hk => if_neg (by have := Finset.mem_range.1 hk; omega)), zero_add]
  refine Finset.sum_congr rfl fun k hk => ?_
  have hk := Finset.mem_range.1 hk
  have e : u.val + (N - u.val + k) - N = k := by omega
  beta_reduce
  rw [if_pos (by omega), dif_pos (by omega), dif_pos (by omega)]
  congr 2
  exact Fin.ext e

end RunningSum

end Cert.ReferenceIdeal.Lattice
end
-- ==== Proof.RefEntry.lean ====
/-
The reference's tables as its loop finds them.
-/
module

public import proofs.«01_k».proof.Proof.RefLogp
public import proofs.«01_k».proof.Proof.RefLoop
public import proofs.«01_k».proof.Proof.RefGather

@[expose] public section
set_option maxRecDepth 16384
noncomputable section
namespace Cert.ReferenceIdeal.Lattice

open Idealize.ShloMosaic Idealize.ShloMosaic.TcCoe Idealize.ShloMosaic.Tactic
open Idealize.ShloMosaic.StableHlo
open Cert.ReferenceIdeal Cert.ReferenceIdeal.Gen Cert.ReferenceIdeal.Value Cert.Logs

variable (m : (ℓ : Loc nD τ sig) → Buf (Elt Ideal) ℓ) (c : Dev nD)

/-- The contents at the end of each later stretch before the loop. -/
def E2 : Valuation τ sig (Elt Ideal) := after hostOps0_2 (E1 m c)
def E3 : Valuation τ sig (Elt Ideal) := after hostOps0_3 (E2 m c)
def E4 : Valuation τ sig (Elt Ideal) := after hostOps0_4 (E3 m c)
def E5 : Valuation τ sig (Elt Ideal) := after hostOps0_5 (E4 m c)
def E6 : Valuation τ sig (Elt Ideal) := after hostOps0_6 (E5 m c)
def E7 : Valuation τ sig (Elt Ideal) := after hostOps0_7 (E6 m c)
def E8 : Valuation τ sig (Elt Ideal) := after hostOps0_8 (E7 m c)

theorem entry_stages : entryContents preI m c = E8 m c := rfl

theorem symbols_kept : E1 m c (Proc.devRef .tc main_arg8) = a8 m c := by
  unfold E1 E0
  rw [after_of_writes_sub _ _ hostOps0_1_writes (by decide +kernel), after_of_writes_sub _ _ hostOps0_writes (by decide +kernel)]

theorem blanks_at (b : Fin 4) (t : Fin 200) (u : Fin 101) :
    (E2 m c (Proc.devRef .tc main_v20) : Vec Ideal S4x200x101 .f32) (ix3 b t u) = logps m c (ix4 b t u 0) := by
  unfold E2 logps
  generalize E1 m c = W
  after_reads_at

theorem wanted_at (b : Fin 4) (t : Fin 200) (u : Fin 100) :
    (E2 m c (Proc.devRef .tc main_v22) : Vec Ideal S4x200x100x1 .i32) (ix4 b t u 0) = a8 m c (ix2 b u) := by
  rw [← symbols_kept]
  unfold E2
  generalize E1 m c = W
  after_reads_at

theorem rows_at (b : Fin 4) (t : Fin 200) (u : Fin 100) (v : Fin 1024) :
    (E2 m c (Proc.devRef .tc main_v23) : Vec Ideal S4x200x100x1024 .f32) (ix4 b t u v) = logps m c (ix4 b t ⟨u.val, by omega⟩ v) := by
  unfold E2 logps
  generalize E1 m c = W
  after_reads_at

/-- A word below 1024 is not negative, and the test against the ends passes. -/
theorem not_negative (w : BitVec 32) (h : w.toNat < 1024) : IntOp.cmpi CmpIPredicate.slt w 0#32 = 0#1 := by
  unfold IntOp.cmpi
  have : w.slt 0#32 = false := by
    rw [BitVec.slt_eq_decide, decide_eq_false_iff_not, BitVec.toInt_eq_toNat_of_lt (by omega)]
    simp
  simp [this]

theorem inside (w : BitVec 32) (h : w.toNat < 1024) : IntOp.andi (IntOp.cmpi CmpIPredicate.sge w 0#32) (IntOp.cmpi CmpIPredicate.sle w 1023#32) = 1#1 := by
  have h1 : w.toInt = w.toNat := BitVec.toInt_eq_toNat_of_lt (by omega)
  have a : (0#32).sle w = true := by
    rw [BitVec.sle_eq_decide, decide_eq_true_iff, h1]
    simp
  have b : w.sle 1023#32 = true := by
    rw [BitVec.sle_eq_decide, decide_eq_true_iff, h1]
    have : (1023#32).toInt = 1023 := by decide
    omega
  unfold IntOp.cmpi
  simp [a, b, IntOp.andi]

theorem kept_word (w : BitVec 32) (h : w.toNat < 1024) : Scalar.select (IntOp.cmpi CmpIPredicate.slt w 0#32) (IntOp.addi w 1024#32) w = w := by
  rw [not_negative w h]
  rfl

theorem idx_at (b : Fin 4) (t : Fin 200) (u : Fin 100) (k : Fin 1)
    (h : ((E2 m c (Proc.devRef .tc main_v22) : Vec Ideal S4x200x100x1 .i32) (ix4 b t u 0)).toNat < 1024) :
    (E3 m c (Proc.devRef .tc main_call1_v5) : Vec Ideal S4x200x100x1x1 .i32) (ix5 b t u 0 k) =
     (E2 m c (Proc.devRef .tc main_v22) : Vec Ideal S4x200x100x1 .i32) (ix4 b t u 0) := by
  refine Eq.trans ?_ (kept_word _ h)
  unfold E3
  generalize E2 m c = W
  after_reads_at

theorem mask_at (b : Fin 4) (t : Fin 200) (u : Fin 100) (k : Fin 1)
    (h : ((E2 m c (Proc.devRef .tc main_v22) : Vec Ideal S4x200x100x1 .i32) (ix4 b t u 0)).toNat < 1024) :
    (E3 m c (Proc.devRef .tc main_call1_v11) : Vec Ideal S4x200x100x1x1 .i1) (ix5 b t u 0 k) = 1#1 := by
  refine Eq.trans ?_ (inside _ h)
  have e := kept_word _ h
  revert e
  unfold E3
  generalize E2 m c = W
  intro e
  after_reads_at
  rw [e]

theorem chosen_eq :
    (E3 m c (Proc.devRef .tc main_v24) : Vec Ideal S4x200x100x1 .f32) =
     select (E3 m c (Proc.devRef .tc main_call1_v12) : Vec Ideal S4x200x100x1 .i1) (E3 m c (Proc.devRef .tc main_call1_v13) : Vec Ideal S4x200x100x1 .f32) (E3 m c (Proc.devRef .tc main_call1_v14) : Vec Ideal S4x200x100x1 .f32) := by
  unfold E3
  generalize E2 m c = W
  after_reads_simp
  simp -implicitDefEqProofs only [StableHlo.TRef.toBuf, StableHlo.TRef.ofBuf, cast_cast, cast_eq]

theorem mask_eq : (E3 m c (Proc.devRef .tc main_call1_v12) : Vec Ideal S4x200x100x1 .i1) = Host.reduce IntOp.andi (E3 m c (Proc.devRef .tc main_call1_v11) : Vec Ideal S4x200x100x1x1 .i1) (constantI S_ 1 1#1) reducesTo_S4x200x100x1x1_S4x200x100x1_d4 h_S_ := by
  unfold E3
  generalize E2 m c = W
  after_reads_simp
  simp -implicitDefEqProofs only [StableHlo.TRef.toBuf, StableHlo.TRef.ofBuf, cast_cast, cast_eq]

theorem gather_eq : (E3 m c (Proc.devRef .tc main_call1_v13) : Vec Ideal S4x200x100x1 .f32) = Host.gather gather_S4x200x100x1024_S4x200x100x1x1_S4x200x100x1_n_3_012_012_3_4_1111 (E2 m c (Proc.devRef .tc main_v23) : Vec Ideal S4x200x100x1024 .f32) (E3 m c (Proc.devRef .tc main_call1_v5) : Vec Ideal S4x200x100x1x1 .i32) := by
  unfold E3
  generalize E2 m c = W
  after_reads_simp
  simp -implicitDefEqProofs only [StableHlo.TRef.toBuf, StableHlo.TRef.ofBuf, cast_cast, cast_eq]

theorem fold_and {ι : Type*} (f : ι → BitVec 1) : ∀ l : List ι, (∀ n ∈ l, f n = 1#1) → l.foldl (fun r n => IntOp.andi r (f n)) 1#1 = 1#1
  | [], _ => rfl
  | k :: l, h => by
    rw [List.foldl_cons, h k List.mem_cons_self, show IntOp.andi 1#1 1#1 = 1#1 from rfl]
    exact fold_and f l fun n hn => h n (List.mem_cons_of_mem _ hn)
/-- A conjunction over the last axis of entries that all hold. -/
theorem reduce_and {n0 n1 n2 n3 n4 : ℕ} {t u' : Shape} (x : IVec ⟨5, ![n0, n1, n2, n3, n4]⟩ 1) (a : IVec u' 1) (h : (⟨5, ![n0, n1, n2, n3, n4]⟩ : Shape).ReducesTo [4] t)
    (hu : 0 < u'.numel) (ha : a (Shape.Idx.first hu) = 1#1) (j : t.Idx) (hx : ∀ i, h.drop i = j → x i = 1#1) :
    Host.reduce IntOp.andi x a h hu j = 1#1 := by
  unfold Host.reduce
  rw [ha]
  refine fold_and (fun n => x ((⟨5, ![n0, n1, n2, n3, n4]⟩ : Shape).rowMajor.symm n)) _ fun n hn => hx _ ?_
  rw [List.mem_filter, decide_eq_true_iff] at hn
  exact hn.2

theorem all_inside (x : IVec S4x200x100x1x1 1) (b : Fin 4) (t : Fin 200) (u : Fin 100) (h : ∀ k : Fin 1, x (ix5 b t u 0 k) = 1#1) :
    Host.reduce IntOp.andi x (constantI S_ 1 1#1) reducesTo_S4x200x100x1x1_S4x200x100x1_d4 h_S_ (ix4 b t u 0) = 1#1 := by
  refine reduce_and x _ _ _ rfl _ fun i hi => ?_
  obtain ⟨k, hk⟩ := (Shape.ReducesTo.fiber_r5_a4 reducesTo_S4x200x100x1x1_S4x200x100x1_d4 (ix4 b t u 0) i).1 hi
  rw [← hk]
  exact h k

theorem pick_eq (x : FVec Ideal S4x200x100x1024 .f32) (idx : IVec S4x200x100x1x1 32) (b : Fin 4) (t : Fin 200) (u : Fin 100) (v : Fin 1024)
    (hv : (idx (ix5 b t u 0 0)).toInt.toNat = v.val) :
    Host.gather gather_S4x200x100x1024_S4x200x100x1x1_S4x200x100x1_n_3_012_012_3_4_1111 x idx (ix4 b t u 0) = x (ix4 b t u v) :=
  pick_at gather_S4x200x100x1024_S4x200x100x1x1_S4x200x100x1_n_3_012_012_3_4_1111_wf x idx b t u v hv

theorem picked_at (b : Fin 4) (t : Fin 200) (u : Fin 100) :
    (E4 m c (Proc.devRef .tc main_v25) : Vec Ideal S4x200x100 .f32) (ix3 b t u) = (E3 m c (Proc.devRef .tc main_v24) : Vec Ideal S4x200x100x1 .f32) (ix4 b t u 0) := by
  unfold E4
  generalize E3 m c = W
  after_reads_at

theorem first_at (b : Fin 4) (u : Fin 100) :
    (E4 m c (Proc.devRef .tc main_v28) : Vec Ideal S4x100 .f32) (ix2 b u) = (E3 m c (Proc.devRef .tc main_v24) : Vec Ideal S4x200x100x1 .f32) (ix4 b 0 u 0) := by
  unfold E4
  generalize E3 m c = W
  after_reads_at

theorem zero_at (b : Fin 4)  :
    (E4 m c (Proc.devRef .tc main_v26) : Vec Ideal S4x1 .f32) (ix2 b 0) = (0 : EReal) := by
  unfold E4
  generalize E3 m c = W
  after_reads_at

theorem running (x : FVec Ideal S4x100 .f32) (y : FVec Ideal S_ .f32) (hy : y (Shape.Idx.first h_S_) = (0 : EReal)) (b : Fin 4) (u : Fin 100) :
    Host.reduceWindowAdd ![1, 100] ![1, 1] ![0, 99] ![0, 0] x y reduceWindows_S4x100_S4x100_w1s1p0_0_w100s1p99_0 h_S_ (ix2 b u)
      = ∑ k ∈ Finset.range (u.val + 1), (if hk : k < 100 then (x (ix2 b ⟨k, hk⟩) : EReal) else 0) :=
  running_at (B := 4) (N := 99) x y h_S_ hy reduceWindows_S4x100_S4x100_w1s1p0_0_w100s1p99_0 b u
abbrev firsts : FVec Ideal S4x100 .f32 := E4 m c (Proc.devRef .tc main_v28)

theorem sums_at (b : Fin 4) (u : Fin 100) : (E5 m c (Proc.devRef .tc main_v29) : Vec Ideal S4x100 .f32) (ix2 b u)
      = ∑ k ∈ Finset.range (u.val + 1), (if hk : k < 100 then (firsts m c (ix2 b ⟨k, hk⟩) : EReal) else 0) := by
  have h : (E5 m c (Proc.devRef .tc main_v29) : Vec Ideal S4x100 .f32) = Host.reduceWindowAdd ![1, 100] ![1, 1] ![0, 99] ![0, 0] (firsts m c) (broadcastInDim S_ ![] bcast_S_S_ (constant S_ .f32 0x00000000#32) : FVec Ideal S_ .f32) reduceWindows_S4x100_S4x100_w1s1p0_0_w100s1p99_0 h_S_ := by
    unfold firsts E5
    generalize E4 m c = W
    after_reads_simp
    simp -implicitDefEqProofs only [StableHlo.TRef.toBuf, StableHlo.TRef.ofBuf, cast_cast, cast_eq]
  rw [h]
  refine running _ _ ?_ b u
  show (Ideal.ofBits .f32 0x00000000#32 : EReal) = 0
  simp [Ideal.ofBits, Ideal.ieee]

theorem later_at (b : Fin 4) (u : Fin 100) : (E6 m c (Proc.devRef .tc main_v30) : Vec Ideal S4x101 .f32) (ix2 b ⟨u.val + 1, by omega⟩) = (E5 m c (Proc.devRef .tc main_v29) : Vec Ideal S4x100 .f32) (ix2 b u) := by
  unfold E6
  generalize E5 m c = W
  after_reads_at
  exact dif_neg (by omega)

theorem padded_at (b : Fin 4) (t : Fin 200) (u : Fin 101) : (E7 m c (Proc.devRef .tc main_v33) : Vec Ideal S4x200x101 .f32) (ix3 b t u) = if h : u.val < 100 then (E6 m c (Proc.devRef .tc main_v25) : Vec Ideal S4x200x100 .f32) (ix3 b t ⟨u.val, h⟩) else (E6 m c (Proc.devRef .tc main_cst_0) : Vec Ideal S_ .f32) (Shape.Idx.first h_S_) := by
  unfold E7
  generalize E6 m c = W
  after_reads_at
  rfl

theorem low_at : (E6 m c (Proc.devRef .tc main_cst_0) : Vec Ideal S_ .f32) (Shape.Idx.first h_S_) = (⊥ : EReal) := by
  refine Eq.trans ?_ bottom
  unfold E6
  generalize E5 m c = W
  after_reads_simp
  rfl

theorem flatE_at (i : Fin 20200) (b : Fin 4) : tabE (E8 m c) (ix2 i b) = (E7 m c (Proc.devRef .tc main_v33) : Vec Ideal S4x200x101 .f32) (ix3 b ⟨i.val / 101, by omega⟩ ⟨i.val % 101, by omega⟩) := by
  unfold tabE E8
  generalize E7 m c = W
  after_reads_at
  rfl

theorem tabB_at (i : Fin 20200) (b : Fin 4) : tabB (E8 m c) (ix2 i b) = (E7 m c (Proc.devRef .tc main_v32) : Vec Ideal S20200x4 .f32) (ix2 i b) := by
  unfold tabB E8
  generalize E7 m c = W
  after_reads_at
  rfl

theorem cell_at : cell (E8 m c) = fun _ => BitVec.ofNat 32 101 := by
  unfold cell E8
  generalize E7 m c = W
  after_reads_simp
  rfl

theorem tabA_eq : tabA (E8 m c) = (E8 m c (Proc.devRef .tc main_v38) : Vec Ideal S20200x4 .f32) := by
  unfold tabA E8
  generalize E7 m c = W
  after_reads_simp
  rfl

theorem start_row (i : Fin 20200) (hi : i.val < 101) (b : Fin 4) : (E8 m c (Proc.devRef .tc main_v38) : Vec Ideal S20200x4 .f32) (ix2 i b) = (E7 m c (Proc.devRef .tc main_v30) : Vec Ideal S4x101 .f32) (ix2 b ⟨i.val, hi⟩) := by
  unfold E8
  generalize E7 m c = W
  after_reads_at
  exact dif_pos hi

theorem row0_at (b : Fin 4) : (E6 m c (Proc.devRef .tc main_v30) : Vec Ideal S4x101 .f32) (ix2 b 0) = (E5 m c (Proc.devRef .tc main_v26) : Vec Ideal S4x1 .f32) (ix2 b 0) := by
  unfold E6
  generalize E5 m c = W
  after_reads_at

theorem flat_at (i : Fin 20200) (b : Fin 4) : (E6 m c (Proc.devRef .tc main_v32) : Vec Ideal S20200x4 .f32) (ix2 i b) = (E5 m c (Proc.devRef .tc main_v20) : Vec Ideal S4x200x101 .f32) (ix3 b ⟨i.val / 101, by omega⟩ ⟨i.val % 101, by omega⟩) := by
  unfold E6
  generalize E5 m c = W
  after_reads_at

theorem kept_v20 : E5 m c (Proc.devRef .tc main_v20) = E2 m c (Proc.devRef .tc main_v20) := by
  unfold E5 E4 E3
  rw [after_of_writes_sub _ _ hostOps0_5_writes (by decide +kernel), after_of_writes_sub _ _ hostOps0_4_writes (by decide +kernel),
    after_of_writes_sub _ _ hostOps0_3_writes (by decide +kernel)]

theorem last_v20 : E8 m c (Proc.devRef .tc main_v20) = E2 m c (Proc.devRef .tc main_v20) := by
  unfold E8 E7 E6
  rw [after_of_writes_sub _ _ hostOps0_8_writes (by decide +kernel), after_of_writes_sub _ _ hostOps0_7_writes (by decide +kernel),
    after_of_writes_sub _ _ hostOps0_6_writes (by decide +kernel), kept_v20]

theorem kept_v26 : E5 m c (Proc.devRef .tc main_v26) = E4 m c (Proc.devRef .tc main_v26) := by
  unfold E5
  rw [after_of_writes_sub _ _ hostOps0_5_writes (by decide +kernel)]

theorem kept_v25 : E6 m c (Proc.devRef .tc main_v25) = E4 m c (Proc.devRef .tc main_v25) := by
  unfold E6 E5
  rw [after_of_writes_sub _ _ hostOps0_6_writes (by decide +kernel), after_of_writes_sub _ _ hostOps0_5_writes (by decide +kernel)]

theorem kept_v32 : E7 m c (Proc.devRef .tc main_v32) = E6 m c (Proc.devRef .tc main_v32) := by
  unfold E7
  rw [after_of_writes_sub _ _ hostOps0_7_writes (by decide +kernel)]

theorem kept_v30 : E7 m c (Proc.devRef .tc main_v30) = E6 m c (Proc.devRef .tc main_v30) := by
  unfold E7
  rw [after_of_writes_sub _ _ hostOps0_7_writes (by decide +kernel)]

abbrev tg := Spec.symbols (a8 m c)

theorem select_on {α : Type} {s : Shape} (k : IVec s 1) (x y : s.Idx → α) (i : s.Idx) (h : k i = 1#1) : select k x y i = x i := by
  show Scalar.select (k i) (x i) (y i) = x i
  rw [h]
  rfl

theorem chosen_at (h8 : ∀ i, (a8 m c i).toNat < 1024) (b : Fin 4) (t : Fin 200) (u : Fin 100) :
    (E3 m c (Proc.devRef .tc main_v24) : Vec Ideal S4x200x100x1 .f32) (ix4 b t u 0) = P m c b t ⟨u.val, by omega⟩ (tg m c b u) := by
  have hw : ((E2 m c (Proc.devRef .tc main_v22) : Vec Ideal S4x200x100x1 .i32) (ix4 b t u 0)).toNat < 1024 := by
    rw [wanted_at]
    exact h8 _
  have hm : (E3 m c (Proc.devRef .tc main_call1_v12) : Vec Ideal S4x200x100x1 .i1) (ix4 b t u 0) = 1#1 := by
    rw [mask_eq]
    exact all_inside _ b t u fun k => mask_at m c b t u k hw
  rw [chosen_eq, select_on _ _ _ _ hm]
  rw [gather_eq, pick_eq _ _ b t u (tg m c b u) ?_, rows_at, logps_at]
  rw [idx_at m c b t u 0 hw, wanted_at]
  have := h8 (ix2 b u)
  rw [BitVec.toInt_eq_toNat_of_lt (by omega)]
  exact (Nat.mod_eq_of_lt this).symm

theorem first_row (h8 : ∀ i, (a8 m c i).toNat < 1024) (b : Fin 4) (u : ℕ) (hu : u < 100) :
    firsts m c (ix2 b ⟨u, hu⟩) = Spec.emit (P m c) (tg m c) b 0 u := by
  refine (first_at m c b ⟨u, hu⟩).trans ?_
  rw [chosen_at m c h8]
  unfold Spec.emit
  congr 1
  · exact Fin.ext (Nat.mod_eq_of_lt (by omega : u < 101)).symm
  · congr 1
    exact Fin.ext (Nat.mod_eq_of_lt hu).symm

theorem run_sum (h8 : ∀ i, (a8 m c i).toNat < 1024) (b : Fin 4) : ∀ u : ℕ, u ≤ 100 →
    (∑ k ∈ Finset.range u, (if hk : k < 100 then (firsts m c (ix2 b ⟨k, hk⟩) : EReal) else 0)) = lg (Spec.reach (P m c) (tg m c) b 0 u)
  | 0, _ => by
    rw [Finset.sum_range_zero, Spec.reach_zero]
    apply ex_inj
    rw [ex_lg, ex_zero]
  | u + 1, hu => by
    rw [Finset.sum_range_succ, run_sum h8 b u (by omega), dif_pos (by omega), first_row m c h8, Spec.reach_right, lg_mul, lg_ex]

/-- The tables as the loop finds them. -/
theorem entered (h8 : ∀ i, (a8 m c i).toNat < 1024) : Entered (E8 m c) (P m c) (tg m c) where
  blanks i b := by
    rw [tabB_at, kept_v32, flat_at, kept_v20, blanks_at, logps_at]
    unfold Spec.blank
    congr 1
    · exact Fin.ext (Nat.mod_eq_of_lt (by omega)).symm
    · exact Fin.ext (Nat.mod_eq_of_lt (by omega)).symm
  emits i b := by
    rw [flatE_at, padded_at]
    unfold emitRow
    by_cases h : i.val % 101 < 100
    · rw [dif_pos h, if_pos h, kept_v25, picked_at, chosen_at m c h8]
      unfold Spec.emit
      congr 1
      · exact Fin.ext (Nat.mod_eq_of_lt (by omega)).symm
      · exact Fin.ext (Nat.mod_eq_of_lt (by omega)).symm
      · congr 1
        exact Fin.ext (Nat.mod_eq_of_lt h).symm
    · rw [dif_neg h, if_neg h, low_at]
  at_ := cell_at m c
  first i b hi := by
    rw [tabA_eq, start_row m c i hi, kept_v30]
    obtain ⟨u, hu⟩ := i
    rcases u with _ | u
    · refine (row0_at m c b).trans ?_
      rw [kept_v26, zero_at]
      have h := run_sum m c h8 b 0 (by omega)
      rw [Finset.sum_range_zero] at h
      exact h
    · have hi : u + 1 < 101 := hi
      refine (later_at m c b ⟨u, by omega⟩).trans ?_
      rw [sums_at]
      exact run_sum m c h8 b (u + 1) (by omega)

end Cert.ReferenceIdeal.Lattice
end
-- ==== Proof.RefFinal.lean ====
/-
The reference's result.
-/
module

public import proofs.«01_k».proof.Proof.RefEntry

@[expose] public section
set_option maxRecDepth 16384
noncomputable section
namespace Cert.ReferenceIdeal.Lattice

open Idealize.ShloMosaic Idealize.ShloMosaic.TcCoe Idealize.ShloMosaic.Tactic
open Idealize.ShloMosaic.StableHlo
open Cert.ReferenceIdeal Cert.ReferenceIdeal.Gen Cert.ReferenceIdeal.Value Cert.Logs

variable (m : (ℓ : Loc nD τ sig) → Buf (Elt Ideal) ℓ) (c : Dev nD)

section tail
variable (V : Valuation τ sig (Elt Ideal))
abbrev ends : Valuation τ sig (Elt Ideal) := after hostOps0_9 V
abbrev lens : IVec S4 32 := V (Proc.devRef .tc main_arg9)
abbrev stops : IVec S4 32 := V (Proc.devRef .tc main_arg10)
theorem folded_at (t : Fin 200) (u : Fin 101) (b : Fin 4) : (ends V (Proc.devRef .tc main_v40) : FVec Ideal S200x101x4 .f32) (ix3 t u b) = tabA V (ix2 ⟨t.val * 101 + u.val, by omega⟩ b) := by
  unfold ends tabA
  after_reads_at
theorem path_eq : (ends V (Proc.devRef .tc main_v63) : FVec Ideal S4 .f32) = Host.gather gather_S200x101x4_S4x3_S4_n_012_n_n_012_1_111 (ends V (Proc.devRef .tc main_v40) : FVec Ideal S200x101x4 .f32) (ends V (Proc.devRef .tc main_v62) : IVec S4x3 32) := by
  unfold ends
  after_reads_simp
theorem close_eq : (ends V (Proc.devRef .tc main_v83) : FVec Ideal S4 .f32) = Host.gather gather_S4x200x101_S4x3_S4_n_012_n_n_012_1_111 (V (Proc.devRef .tc main_v20) : FVec Ideal S4x200x101 .f32) (ends V (Proc.devRef .tc main_v82) : IVec S4x3 32) := by
  unfold ends
  after_reads_simp
abbrev paths : FVec Ideal S4 .f32 := ends V (Proc.devRef .tc main_v63)
abbrev closes : FVec Ideal S4 .f32 := ends V (Proc.devRef .tc main_v83)
theorem loss_eq : (ends V (Proc.devRef .tc main_v87) : FVec Ideal S_ .f32) = Host.divf (Host.reduceAdd (Host.negf (addf (paths V) (closes V)) : FVec Ideal S4 .f32) (constant S_ .f32 0x00000000#32) reducesTo_S4_S_d0 h_S_ : FVec Ideal S_ .f32) (constant S_ .f32 0x40800000#32) := by
  unfold paths closes ends
  after_reads_simp
theorem mean_at (x : FVec Ideal S4 .f32) : (Host.divf (Host.reduceAdd (Host.negf x : FVec Ideal S4 .f32) (constant S_ .f32 0x00000000#32) reducesTo_S4_S_d0 h_S_ : FVec Ideal S_ .f32) (constant S_ .f32 0x40800000#32) : FVec Ideal S_ .f32) ix0 = Ideal.div (∑ b, -(x (ix1 b))) (Scalar.ofBits (F := Ideal) .f32 0x40800000#32) := by
  pointwise
theorem word_kept (w k : BitVec 32) (h : w.toNat < 1024) : Scalar.select (IntOp.cmpi CmpIPredicate.slt w 0#32) (IntOp.addi w k) w = w := by
  rw [not_negative w h]
  rfl
theorem less_one (w : BitVec 32) (h : 1 ≤ w.toNat) : (IntOp.subi w 1#32).toNat = w.toNat - 1 := by
  show (w - 1#32).toNat = _
  rw [BitVec.toNat_sub]
  have := w.isLt
  simp only [BitVec.toNat_ofNat]
  omega
theorem as_nat (w : BitVec 32) (h : w.toNat < 1024) : w.toInt.toNat = w.toNat := by
  rw [BitVec.toInt_eq_toNat_of_lt (by omega)]
  rfl
theorem item (n : Fin 4) : (BitVec.ofNat 32 n.val).toNat = n.val := by
  rw [BitVec.toNat_ofNat]
  omega

theorem place_t (n : Fin 4) (h : 1 ≤ (lens V (ix1 n)).toNat ∧ (lens V (ix1 n)).toNat ≤ 200) :
    ((ends V (Proc.devRef .tc main_v62) : IVec S4x3 32) (ix2 n 0)).toInt.toNat = (lens V (ix1 n)).toNat - 1 := by
  have e : (ends V (Proc.devRef .tc main_v62) : IVec S4x3 32) (ix2 n 0) = Scalar.select (IntOp.cmpi CmpIPredicate.slt (IntOp.subi (lens V (ix1 n)) 1#32) 0#32) (IntOp.addi (IntOp.subi (lens V (ix1 n)) 1#32) 200#32) (IntOp.subi (lens V (ix1 n)) 1#32) := by
    unfold ends
    after_reads_at
    after_reads_at
  have l := less_one _ h.1
  rw [e, word_kept _ _ (by omega), as_nat _ (by omega), l]
theorem place_u (n : Fin 4) (h : (stops V (ix1 n)).toNat ≤ 100) :
    ((ends V (Proc.devRef .tc main_v62) : IVec S4x3 32) (ix2 n 1)).toInt.toNat = (stops V (ix1 n)).toNat := by
  have e : (ends V (Proc.devRef .tc main_v62) : IVec S4x3 32) (ix2 n 1) = Scalar.select (IntOp.cmpi CmpIPredicate.slt (stops V (ix1 n)) 0#32) (IntOp.addi (stops V (ix1 n)) 101#32) (stops V (ix1 n)) := by
    unfold ends
    after_reads_at
    after_reads_at
  rw [e, word_kept _ _ (by omega), as_nat _ (by omega)]
theorem place_b (n : Fin 4) : ((ends V (Proc.devRef .tc main_v62) : IVec S4x3 32) (ix2 n 2)).toInt.toNat = n.val := by
  have e : (ends V (Proc.devRef .tc main_v62) : IVec S4x3 32) (ix2 n 2) = Scalar.select (IntOp.cmpi CmpIPredicate.slt (BitVec.ofNat 32 n.val) 0#32) (IntOp.addi (BitVec.ofNat 32 n.val) 4#32) (BitVec.ofNat 32 n.val) := by
    unfold ends
    after_reads_at
    after_reads_at
  have l := item n
  rw [e, word_kept _ _ (by omega), as_nat _ (by omega), l]
theorem spot_b (n : Fin 4) : ((ends V (Proc.devRef .tc main_v82) : IVec S4x3 32) (ix2 n 0)).toInt.toNat = n.val := by
  have e : (ends V (Proc.devRef .tc main_v82) : IVec S4x3 32) (ix2 n 0) = Scalar.select (IntOp.cmpi CmpIPredicate.slt (BitVec.ofNat 32 n.val) 0#32) (IntOp.addi (BitVec.ofNat 32 n.val) 4#32) (BitVec.ofNat 32 n.val) := by
    unfold ends
    after_reads_at
    after_reads_at
  have l := item n
  rw [e, word_kept _ _ (by omega), as_nat _ (by omega), l]
theorem spot_t (n : Fin 4) (h : 1 ≤ (lens V (ix1 n)).toNat ∧ (lens V (ix1 n)).toNat ≤ 200) :
    ((ends V (Proc.devRef .tc main_v82) : IVec S4x3 32) (ix2 n 1)).toInt.toNat = (lens V (ix1 n)).toNat - 1 := by
  have e : (ends V (Proc.devRef .tc main_v82) : IVec S4x3 32) (ix2 n 1) = Scalar.select (IntOp.cmpi CmpIPredicate.slt (IntOp.subi (lens V (ix1 n)) 1#32) 0#32) (IntOp.addi (IntOp.subi (lens V (ix1 n)) 1#32) 200#32) (IntOp.subi (lens V (ix1 n)) 1#32) := by
    unfold ends
    after_reads_at
    after_reads_at
  have l := less_one _ h.1
  rw [e, word_kept _ _ (by omega), as_nat _ (by omega), l]
theorem spot_u (n : Fin 4) (h : (stops V (ix1 n)).toNat ≤ 100) :
    ((ends V (Proc.devRef .tc main_v82) : IVec S4x3 32) (ix2 n 2)).toInt.toNat = (stops V (ix1 n)).toNat := by
  have e : (ends V (Proc.devRef .tc main_v82) : IVec S4x3 32) (ix2 n 2) = Scalar.select (IntOp.cmpi CmpIPredicate.slt (stops V (ix1 n)) 0#32) (IntOp.addi (stops V (ix1 n)) 101#32) (stops V (ix1 n)) := by
    unfold ends
    after_reads_at
    after_reads_at
  rw [e, word_kept _ _ (by omega), as_nat _ (by omega)]

variable (h9 : ∀ n : Fin 4, 1 ≤ (lens V (ix1 n)).toNat ∧ (lens V (ix1 n)).toNat ≤ 200) (h10 : ∀ n : Fin 4, (stops V (ix1 n)).toNat ≤ 100)
include h9 h10

theorem paths_at (n : Fin 4) : paths V (ix1 n) = tabA V (ix2 ⟨((lens V (ix1 n)).toNat - 1) * 101 + (stops V (ix1 n)).toNat, by have := h9 n; have := h10 n; omega⟩ n) := by
  have a := h9 n
  have b := h10 n
  unfold paths
  rw [path_eq]
  refine (entry_at gather_S200x101x4_S4x3_S4_n_012_n_n_012_1_111_wf _ _ n ⟨(lens V (ix1 n)).toNat - 1, by omega⟩ ⟨(stops V (ix1 n)).toNat, by omega⟩ n
    (place_t V n a) (place_u V n b) (place_b V n)).trans ?_
  exact folded_at V _ _ _

theorem closes_at (n : Fin 4) : closes V (ix1 n) = (V (Proc.devRef .tc main_v20) : FVec Ideal S4x200x101 .f32)
    (ix3 n ⟨(lens V (ix1 n)).toNat - 1, by have := h9 n; omega⟩ ⟨(stops V (ix1 n)).toNat, by have := h10 n; omega⟩) := by
  have a := h9 n
  have b := h10 n
  unfold closes
  rw [close_eq]
  exact entry_at gather_S4x200x101_S4x3_S4_n_012_n_n_012_1_111_wf _ _ n n ⟨(lens V (ix1 n)).toNat - 1, by omega⟩ ⟨(stops V (ix1 n)).toNat, by omega⟩
    (spot_b V n) (spot_t V n a) (spot_u V n b)

/-- The mean of the negated scores, given the filled table and the blanks. -/
theorem loss_at (P : Fin 4 → Fin 200 → Fin 101 → Fin 1024 → EReal) (tg : Fin 4 → Fin 100 → Fin 1024)
    (hA : ∀ (i : Fin 20200) (b : Fin 4), tabA V (ix2 i b) = lg (Spec.reach P tg b (i.val / 101) (i.val % 101)))
    (hB : ∀ (b : Fin 4) (t : Fin 200) (u : Fin 101), (V (Proc.devRef .tc main_v20) : FVec Ideal S4x200x101 .f32) (ix3 b t u) = P b t u 0) :
    (ends V (Proc.devRef .tc main_v87) : FVec Ideal S_ .f32) ix0
      = Ideal.div (∑ b, -(Spec.score P tg b ((lens V (ix1 b)).toNat - 1) (stops V (ix1 b)).toNat)) (Scalar.ofBits (F := Ideal) .f32 0x40800000#32) := by
  rw [loss_eq, mean_at]
  congr 1
  refine Finset.sum_congr rfl fun n _ => congrArg (fun z : EReal => -z) ?_
  have a := h9 n
  have b := h10 n
  have e : (addf (paths V) (closes V) : FVec Ideal S4 .f32) (ix1 n) = (paths V (ix1 n) + closes V (ix1 n) : EReal) := rfl
  rw [e, paths_at V h9 h10, closes_at V h9 h10, hA, hB]
  unfold Spec.score Spec.blank
  have d : (((lens V (ix1 n)).toNat - 1) * 101 + (stops V (ix1 n)).toNat) / 101 = (lens V (ix1 n)).toNat - 1 := by omega
  have r : (((lens V (ix1 n)).toNat - 1) * 101 + (stops V (ix1 n)).toNat) % 101 = (stops V (ix1 n)).toNat := by omega
  simp only [d, r]
  congr 2
  · exact Fin.ext (Nat.mod_eq_of_lt (by omega)).symm
  · exact Fin.ext (Nat.mod_eq_of_lt (by omega)).symm

end tail

end Cert.ReferenceIdeal.Lattice
end
-- ==== Proof.RefResult.lean ====
/-
The reference's result, after its whole run.
-/
module

public import proofs.«01_k».proof.Proof.RefFinal

@[expose] public section
set_option maxRecDepth 16384
noncomputable section
namespace Cert.ReferenceIdeal.Lattice

open Idealize.ShloMosaic Idealize.ShloMosaic.TcCoe Idealize.ShloMosaic.Tactic
open Idealize.ShloMosaic.StableHlo
open Cert.ReferenceIdeal Cert.ReferenceIdeal.Gen Cert.ReferenceIdeal.Value Cert.Logs

variable (m : (ℓ : Loc nD τ sig) → Buf (Elt Ideal) ℓ) (c : Dev nD)

/-- The contents when the loop has ended. -/
def left : Valuation τ sig (Elt Ideal) := after condOps (atTrip condOps bodyI (entryContents preI m) 20099 c)

theorem final_eq : finalContents condOps preI bodyI postI 20099 m c = ends (left m c) := rfl

theorem left_given (b : Ref sig .tc) (h : b ∈ Quiet.given) : left m c (Proc.devRef .tc b) = m ((c.tc : Thread nD τ).loc b) := by
  unfold left
  rw [after_of_writes_sub _ _ condOps_writes (Quiet.test_spares b h), Quiet.during m _ c b h]
  exact Quiet.before _ b h

theorem during_v20 (k : ℕ) : atTrip condOps bodyI (entryContents preI m) k c (Proc.devRef .tc main_v20) = entryContents preI m c (Proc.devRef .tc main_v20) := by
  induction k with
  | zero => rfl
  | succ k ih =>
    rw [atTrip_succ]
    exact (after_of_writes_sub while0Ops0 _ while0Ops0_writes (by decide +kernel)).trans ((after_of_writes_sub condOps _ condOps_writes (by decide +kernel)).trans ih)

theorem left_v20 : left m c (Proc.devRef .tc main_v20) = E2 m c (Proc.devRef .tc main_v20) := by
  unfold left
  rw [after_of_writes_sub _ _ condOps_writes (by decide +kernel), during_v20, entry_stages, last_v20]

theorem left_tab : tabA (left m c) = tabA (STEP^[20099] (E8 m c)) :=
  (cond_keeps _ main_v39_4 (by decide)).trans ((atK_agree m c 20099 main_v39_4 (by decide)).trans (by rw [entry_stages]))

/-- The loss: the mean of the negated scores. -/
def total : EReal := (∑ b, Spec.score (P m c) (tg m c) b ((a9 m c (ix1 b)).toNat - 1) (a10 m c (ix1 b)).toNat) * Scalar.ofBits (F := Ideal) .f32 0xBE800000#32

theorem value (h8 : ∀ i, (a8 m c i).toNat < 1024) (h9 : ∀ b : Fin 4, 1 ≤ (a9 m c (ix1 b)).toNat ∧ (a9 m c (ix1 b)).toNat ≤ 200)
    (h10 : ∀ b : Fin 4, (a10 m c (ix1 b)).toNat ≤ 100) :
    finalContents condOps preI bodyI postI 20099 m c (Proc.devRef .tc main_v87) = fun _ => total m c := by
  have l9 : lens (left m c) = a9 m c := left_given m c main_arg9 (by decide)
  have l10 : stops (left m c) = a10 m c := left_given m c main_arg10 (by decide)
  have hf := (filled (E8 m c) (P m c) (tg m c) (entered m c h8) 20099 (le_refl _)).2.2.2
  have h := loss_at (left m c) (by rw [l9]; exact h9) (by rw [l10]; exact h10) (P m c) (tg m c)
    (fun i b => by rw [left_tab]; exact hf i b (by omega))
    (fun b t u => by rw [left_v20, blanks_at, logps_at])
  rw [l9, l10] at h
  have hm := Spec.mean_eq (fun b => Spec.score (P m c) (tg m c) b ((a9 m c (ix1 b)).toNat - 1) (a10 m c (ix1 b)).toNat)
    (fun b => Spec.score_ne_top (P m c) (tg m c) (fun b t u v => exp_le_one Finset.univ _ v (Finset.mem_univ _)) b _ _)
  rw [final_eq]
  funext i
  rw [show i = ix0 from funext fun a => a.elim0]
  exact h.trans hm

end Cert.ReferenceIdeal.Lattice
end
-- ==== Proof.Ranges.lean ====
/-
What the precondition says of the three integer arguments.
-/
module

public import proofs.«01_k».proof.Pre_drawn
public import Idealize.ShloMosaic.Lib.Pointwise

@[expose] public section
noncomputable section
namespace Cert.Ranges

open Idealize.ShloMosaic

theorem both (p q : BitVec 1) (h : IntOp.andi p q = 1#1) : p = 1#1 ∧ q = 1#1 := by
  revert p q
  decide

theorem fold_all {ι : Type*} (f : ι → BitVec 1) : ∀ (l : List ι) (a : BitVec 1), l.foldl (fun r n => IntOp.andi r (f n)) a = 1#1 → a = 1#1 ∧ ∀ n ∈ l, f n = 1#1
  | [], a, h => ⟨h, by simp⟩
  | k :: l, a, h => by
    obtain ⟨h1, h2⟩ := fold_all f l _ h
    obtain ⟨h3, h4⟩ := both _ _ h1
    refine ⟨h3, fun n hn => ?_⟩
    rcases List.mem_cons.1 hn with rfl | hn
    · exact h4
    · exact h2 n hn

/-- A conjunction over a whole array holds of each entry. -/
theorem all_of {s t u : Shape} {axes : List (Fin s.rank)} (x : IVec s 1) (a : IVec u 1) (h : s.ReducesTo axes t) (hu : 0 < u.numel) (j : t.Idx)
    (hj : ∀ i : s.Idx, h.drop i = j) (e : Host.reduce IntOp.andi x a h hu j = 1#1) (i : s.Idx) : x i = 1#1 := by
  unfold Host.reduce at e
  have := (fold_all (fun n => x (s.rowMajor.symm n)) _ _ e).2 (s.rowMajor i) (by
    rw [List.mem_filter, decide_eq_true_iff, Equiv.symm_apply_apply]
    exact ⟨List.mem_finRange _, hj i⟩)
  rwa [Equiv.symm_apply_apply] at this

theorem of_bool (p : Bool) (h : BitVec.ofBool p = 1#1) : p = true := by
  revert p
  decide

theorem least (w : BitVec 32) (k : ℕ) (hk : k < 2 ^ 31) (h : IntOp.cmpi CmpIPredicate.sge w (BitVec.ofNat 32 k) = 1#1) : w.toNat < 2 ^ 31 ∧ k ≤ w.toNat := by
  have h := of_bool _ h
  have e : (BitVec.ofNat 32 k).sle w = true := h
  rw [BitVec.sle_eq_decide, decide_eq_true_iff] at e
  simp only [BitVec.toInt, BitVec.toNat_ofNat] at e
  have := w.isLt
  split at e <;> split at e <;> omega
theorem most (w : BitVec 32) (k : ℕ) (hk : k < 2 ^ 31) (hw : w.toNat < 2 ^ 31) (h : IntOp.cmpi CmpIPredicate.sle w (BitVec.ofNat 32 k) = 1#1) : w.toNat ≤ k := by
  have h := of_bool _ h
  have e : w.sle (BitVec.ofNat 32 k) = true := h
  rw [BitVec.sle_eq_decide, decide_eq_true_iff] at e
  simp only [BitVec.toInt, BitVec.toNat_ofNat] at e
  split at e <;> split at e <;> omega
theorem below (w : BitVec 32) (k : ℕ) (hk : k < 2 ^ 31) (hw : w.toNat < 2 ^ 31) (h : IntOp.cmpi CmpIPredicate.slt w (BitVec.ofNat 32 k) = 1#1) : w.toNat < k := by
  have h := of_bool _ h
  have e : w.slt (BitVec.ofNat 32 k) = true := h
  rw [BitVec.slt_eq_decide, decide_eq_true_iff] at e
  simp only [BitVec.toInt, BitVec.toNat_ofNat] at e
  split at e <;> split at e <;> omega

open Cert.Pre_drawn in
theorem decoded [Facts] (x0 : FVec Ideal S4x200x144 .f32) (x1 : FVec Ideal S4x101x320 .f32) (x2 : FVec Ideal S144x320 .f32) (x3 : FVec Ideal S320 .f32) (x4 : FVec Ideal S320x320 .f32)
    (x5 : FVec Ideal S320 .f32) (x6 : FVec Ideal S320x1024 .f32) (x7 : FVec Ideal S1024 .f32) (x8 : IVec S4x100 32) (x9 x10 : IVec S4 32)
    (h : fn (F := Ideal) x0 x1 x2 x3 x4 x5 x6 x7 x8 x9 x10 = fun _ => 1#1) :
    (∀ i, (x8 i).toNat < 1024) ∧ (∀ i, 1 ≤ (x9 i).toNat ∧ (x9 i).toNat ≤ 200) ∧ ∀ i, (x10 i).toNat ≤ 100 := by
  have e := congrFun h ix0
  unfold fn fn_part1 at e
  obtain ⟨e, e10⟩ := both _ _ e
  obtain ⟨e8, e9⟩ := both _ _ e
  have one : ∀ i j : S_.Idx, i = j := fun i j => funext fun a => a.elim0
  have a8 := all_of _ _ _ _ _ (fun _ => one _ _) e8
  have a9 := all_of _ _ _ _ _ (fun _ => one _ _) e9
  have a10 := all_of _ _ _ _ _ (fun _ => one _ _) e10
  refine ⟨fun i => ?_, fun i => ?_, fun i => ?_⟩
  · obtain ⟨p, q⟩ := both _ _ (a8 i)
    obtain ⟨hw, -⟩ := least (x8 i) 1 (by decide) p
    exact below (x8 i) 1024 (by decide) hw q
  · obtain ⟨p, q⟩ := both _ _ (a9 i)
    obtain ⟨hw, hl⟩ := least (x9 i) 100 (by decide) p
    have := most (x9 i) 200 (by decide) hw q
    omega
  · obtain ⟨p, q⟩ := both _ _ (a10 i)
    obtain ⟨hw, -⟩ := least (x10 i) 50 (by decide) p
    exact most (x10 i) 100 (by decide) hw q

end Cert.Ranges
end
-- ==== Proof.Same.lean ====
/-
The two programs' results are the same number.
-/
module

public import proofs.«01_k».proof.Defs
public import proofs.«01_k».proof.Proof.Gen.Pre_drawn
public import proofs.«01_k».proof.Proof.Whole
public import proofs.«01_k».proof.Proof.KernelResult
public import proofs.«01_k».proof.Proof.RefResult
public import proofs.«01_k».proof.Proof.Ranges

@[expose] public section
noncomputable section
namespace Cert.Same

open Idealize.ShloMosaic Idealize.SL.Sem

section totals
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem total_eq (e0 : ReferenceIdeal.Lattice.a0 m' c = KernelIdeal.Value.a0 m c) (e1 : ReferenceIdeal.Lattice.a1 m' c = KernelIdeal.Value.a1 m c)
    (e2 : ReferenceIdeal.Lattice.a2 m' c = KernelIdeal.Value.a2 m c) (e3 : ReferenceIdeal.Lattice.a3 m' c = KernelIdeal.Value.a3 m c)
    (e4 : ReferenceIdeal.Lattice.a4 m' c = KernelIdeal.Value.a4 m c) (e5 : ReferenceIdeal.Lattice.a5 m' c = KernelIdeal.Value.a5 m c)
    (e6 : ReferenceIdeal.Lattice.a6 m' c = KernelIdeal.Value.a6 m c) (e7 : ReferenceIdeal.Lattice.a7 m' c = KernelIdeal.Value.a7 m c)
    (e8 : ReferenceIdeal.Lattice.a8 m' c = KernelIdeal.Value.a8 m c) (e9 : ReferenceIdeal.Lattice.a9 m' c = KernelIdeal.Value.a9 m c)
    (e10 : ReferenceIdeal.Lattice.a10 m' c = KernelIdeal.Value.a10 m c) :
    ReferenceIdeal.Lattice.total m' c = KernelIdeal.Value.total m c := by
  unfold ReferenceIdeal.Lattice.total KernelIdeal.Value.total ReferenceIdeal.Lattice.P ReferenceIdeal.Lattice.tg KernelIdeal.Value.P KernelIdeal.Value.tg
  rw [e0, e1, e2, e3, e4, e5, e6, e7, e8, e9, e10]
end totals

theorem algebraic : Cert.algebraic_KernelIdeal_ReferenceIdeal_pre_drawn (hKernelIdeal := Cert.KernelIdeal.Gen.facts) (hReferenceIdeal := Cert.ReferenceIdeal.Gen.facts)
    (hPre_drawn := Cert.Pre_drawn.Gen.facts) := by
  intro m g m' g' hp ha
  have hr := fun c => Ranges.decoded _ _ _ _ _ _ _ _ _ _ _ (hp c)
  refine ⟨fun c => fun _ => KernelIdeal.Value.total m c, ?_, ?_⟩
  · refine (θ_run _ _ _).mono (fun r h c => ?_) (Cert.KernelIdeal.Whole.run_main (F := Ideal) m g)
    obtain ⟨h0, h⟩ := h.1 c
    obtain ⟨h8, h9, h10⟩ := hr c
    exact ⟨h0.trans (KernelIdeal.Value.value m c h8 (fun b => h9 _) (fun b => h10 _)), h⟩
  · refine (θ_run _ _ _).mono (fun r h c => ?_) (Cert.ReferenceIdeal.Quiet.run m' g')
    obtain ⟨h8, h9, h10⟩ := hr c
    obtain ⟨e0, e1, e2, e3, e4, e5, e6, e7, e8, e9, e10⟩ := ha c
    have t := total_eq m m' c e0 e1 e2 e3 e4 e5 e6 e7 e8 e9 e10
    have v := ReferenceIdeal.Lattice.value m' c (fun i => (congrArg (fun x : Vec Ideal Cert.ReferenceIdeal.S4x100 .i32 => (x i).toNat < 1024) e8).mpr (h8 i))
      (fun b => (congrArg (fun x : Vec Ideal Cert.ReferenceIdeal.S4 .i32 => 1 ≤ (x (ix1 b)).toNat ∧ (x (ix1 b)).toNat ≤ 200) e9).mpr (h9 _))
      (fun b => (congrArg (fun x : Vec Ideal Cert.ReferenceIdeal.S4 .i32 => (x (ix1 b)).toNat ≤ 100) e10).mpr (h10 _))
    refine ⟨(h.1 c _ rfl).trans (v.trans (funext fun _ => t)), ?_⟩
    exact ⟨(h.1 c _ rfl).trans (Cert.ReferenceIdeal.Quiet.kept m' c _ (by decide)), (h.1 c _ rfl).trans (Cert.ReferenceIdeal.Quiet.kept m' c _ (by decide)),
      (h.1 c _ rfl).trans (Cert.ReferenceIdeal.Quiet.kept m' c _ (by decide)), (h.1 c _ rfl).trans (Cert.ReferenceIdeal.Quiet.kept m' c _ (by decide)),
      (h.1 c _ rfl).trans (Cert.ReferenceIdeal.Quiet.kept m' c _ (by decide)), (h.1 c _ rfl).trans (Cert.ReferenceIdeal.Quiet.kept m' c _ (by decide)),
      (h.1 c _ rfl).trans (Cert.ReferenceIdeal.Quiet.kept m' c _ (by decide)), (h.1 c _ rfl).trans (Cert.ReferenceIdeal.Quiet.kept m' c _ (by decide)),
      (h.1 c _ rfl).trans (Cert.ReferenceIdeal.Quiet.kept m' c _ (by decide)), (h.1 c _ rfl).trans (Cert.ReferenceIdeal.Quiet.kept m' c _ (by decide)),
      (h.1 c _ rfl).trans (Cert.ReferenceIdeal.Quiet.kept m' c _ (by decide))⟩

end Cert.Same
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import proofs.«01_k».proof.Proof.Twin
public import proofs.«01_k».proof.Proof.Whole
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem

theorem reference_kept [Cert.ReferenceIdeal.Facts] : Cert.quiescent_ReferenceIdeal := fun m g _ =>
  (θ_run _ _ _).mono (fun r h => ⟨fun c => ⟨
    (h.1 c _ rfl).trans (Cert.ReferenceIdeal.Quiet.kept m c _ (by decide)), (h.1 c _ rfl).trans (Cert.ReferenceIdeal.Quiet.kept m c _ (by decide)),
    (h.1 c _ rfl).trans (Cert.ReferenceIdeal.Quiet.kept m c _ (by decide)), (h.1 c _ rfl).trans (Cert.ReferenceIdeal.Quiet.kept m c _ (by decide)),
    (h.1 c _ rfl).trans (Cert.ReferenceIdeal.Quiet.kept m c _ (by decide)), (h.1 c _ rfl).trans (Cert.ReferenceIdeal.Quiet.kept m c _ (by decide)),
    (h.1 c _ rfl).trans (Cert.ReferenceIdeal.Quiet.kept m c _ (by decide)), (h.1 c _ rfl).trans (Cert.ReferenceIdeal.Quiet.kept m c _ (by decide)),
    (h.1 c _ rfl).trans (Cert.ReferenceIdeal.Quiet.kept m c _ (by decide)), (h.1 c _ rfl).trans (Cert.ReferenceIdeal.Quiet.kept m c _ (by decide)),
    (h.1 c _ rfl).trans (Cert.ReferenceIdeal.Quiet.kept m c _ (by decide))⟩, h.2⟩) (Cert.ReferenceIdeal.Quiet.run m g)

theorem kernel_kept : Cert.quiescent_Kernel (hKernel := Cert.Kernel.Gen.facts) := by
  rw [← Cert.KernelIdeal.Gen.framed_same]
  exact @Cert.KernelIdeal.Whole.framed Bits _ Cert.KernelIdeal.Gen.asPrinted

theorem ideal_kept : Cert.quiescent_KernelIdeal (hKernelIdeal := Cert.KernelIdeal.Gen.facts) := by
  rw [← Cert.KernelIdeal.Gen.framed_ideal]
  exact Cert.KernelIdeal.Whole.framed

theorem same_kernel : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Pre_drawn.Gen.facts,
  kernel_kept, ideal_kept, fun m g _ => ideal_kept m g trivial, reference_kept, fun m g _ => reference_kept m g trivial, same_kernel, Cert.Same.algebraic⟩

end Cert.Proof

end
